-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  IdealRules.named_const.Statement Cert.Kernel3Ideal.κ "gelu_cub" .f32 0xBDD2D3E8#32 ((((-1) * ((6693141 / 4194304) * (Real.log 2)⁻¹)) * (12003091 / 268435456) : ℝ) : EReal)
  ∧ IdealRules.named_const.Statement Cert.Kernel3Ideal.κ "gelu_lin" .f32 0xC0135761#32 (((-1) * ((6693141 / 4194304) * (Real.log 2)⁻¹) : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v53_0)) (v1 : (c : Dev Cert.Kernel3Ideal.nD) → Buf (Elt Ideal) ((c.tc : Thread Cert.Kernel3Ideal.nD Cert.Kernel3Ideal.τ).loc Cert.Kernel3Ideal.main_v53_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v53_0) = v0 c
          ∧ r.2.mem ((c.tc : Thread Cert.Kernel3Ideal.nD Cert.Kernel3Ideal.τ).loc Cert.Kernel3Ideal.main_v53_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v183) = v0 c
          ∧ r.2.mem ((c.tc : Thread Cert.Reference3Ideal.nD Cert.Reference3Ideal.τ).loc Cert.Reference3Ideal.main_v184) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
-- ==== Kernel.lean ====
abbrev S4x8192x2048 : Shape := ⟨3, ![4, 8192, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S2048 : Shape := ⟨1, ![2048]⟩
abbrev S32768x2048 : Shape := ⟨2, ![32768, 2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S1x2048x256 : Shape := ⟨3, ![1, 2048, 256]⟩
abbrev S2048x256 : Shape := ⟨2, ![2048, 256]⟩
abbrev S1024x256 : Shape := ⟨2, ![1024, 256]⟩
abbrev S1x256x2048 : Shape := ⟨3, ![1, 256, 2048]⟩
abbrev S256x2048 : Shape := ⟨2, ![256, 2048]⟩

abbrev nBuf : Space → Nat
  | .hbm => 15
  | .vmem => 13
  | .smem => 0
  | _ => 0

abbrev bufTy : (tb : Table) → Fin (tcTables nBuf tb) → BufTy
  | .hbm, ⟨0, _⟩ => ⟨S4x8192x2048, .f32⟩
  | .hbm, ⟨1, _⟩ => ⟨S4x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S2048, .f32⟩
  | .hbm, ⟨6, _⟩ => ⟨S4x2048x5632, .bf16⟩
  | .hbm, ⟨7, _⟩ => ⟨S4x2048x5632, .bf16⟩
  | .hbm, ⟨8, _⟩ => ⟨S4x5632x2048, .bf16⟩
  | .hbm, ⟨9, _⟩ => ⟨S32768x2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 1 := Scalar.cmpi .sge arg1 c10_i32
  let v1 : BitVec 32 := Scalar.extui v0
  let v2 : BitVec 32 := Scalar.addi arg0 v1
  let c31_i32 : BitVec 32 := 31#32
  let v3 : BitVec 32 := Scalar.minsi v2 c31_i32
  let c0_i32 : BitVec 32 := 0#32
  let c0_i32_0 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S4x8192x2048 : Shape := ⟨3, ![4, 8192, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S2048 : Shape := ⟨1, ![2048]⟩
abbrev S32768x2048 : Shape := ⟨2, ![32768, 2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩
abbrev S1x2048x5632 : Shape := ⟨3, ![1, 2048, 5632]⟩
abbrev S2048x5632 : Shape := ⟨2, ![2048, 5632]⟩
abbrev S32768x5632 : Shape := ⟨2, ![32768, 5632]⟩
abbrev S1x5632x2048 : Shape := ⟨3, ![1, 5632, 2048]⟩
abbrev S5632x2048 : Shape := ⟨2, ![5632, 2048]⟩

abbrev nBuf : Space → Nat
  | .hbm => 61
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S2048, .f32⟩
  | .hbm, ⟨6, _⟩ => ⟨S32768x2048, .f32⟩
  | .hbm, ⟨7, _⟩ => ⟨S1x2048, .f32⟩
  | .hbm, ⟨8, _⟩ => ⟨S2048, .f32⟩
  | .hbm, ⟨9, _⟩ => ⟨S32768x2048, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x2048, .f32⟩
  | .hbm, ⟨21, _⟩ => ⟨S32768x2048, .f32⟩
  | .hbm, ⟨22, _⟩ => ⟨S1x2048, .f32⟩
  | .hbm, ⟨23, _⟩ => ⟨S32768x2048, .f32⟩
  | .hbm, ⟨24, _⟩ => ⟨S32768x2048, .f32⟩
  | .hbm, ⟨25, _⟩ => ⟨S1x2048x5632, .f32⟩
  | .hbm, ⟨26, _⟩ => ⟨S2048x5632, .f32⟩
  | .hbm, ⟨27, _⟩ => ⟨S32768x5632, .f32⟩
  | .hbm, ⟨28, _⟩ => ⟨S32768x5632, .f32⟩
  | .hbm, ⟨29, _⟩ => ⟨S32768x5632, .f32⟩
  | .hbm, ⟨30, _⟩ => ⟨S_, .f32⟩
  | .hbm, ⟨31, _⟩ => ⟨S32768x5632, .f32⟩
  | .hbm, ⟨32, _⟩ => ⟨S32768x5632, .f32⟩
  | .hbm, ⟨33, _⟩ => ⟨S_, .f32⟩
  | .hbm, ⟨34, _⟩ => ⟨S32768x5632, .f32⟩
  | .hbm, ⟨35, _⟩ => ⟨S32768x5632, .f32⟩
  | .hbm, ⟨36, _⟩ => ⟨S32768x5632, .f32⟩
  | .hbm, ⟨37, _⟩ => ⟨S1x2048x5632, .f32⟩
  | .hbm, ⟨38, _⟩ => ⟨S2048x5632, .f32⟩
  | .hbm, ⟨39, _⟩ => ⟨S32768x5632, .f32⟩
  | .hbm, ⟨40, _⟩ => ⟨S32768x5632, .f32⟩
  | .hbm, ⟨41, _⟩ => ⟨S1x5632x2048, .f32⟩
  | .hbm, ⟨42, _⟩ => ⟨S5632x2048, .f32⟩
  | .hbm, ⟨43, _⟩ => ⟨S32768x2048, .f32⟩
  | .hbm, ⟨44, _⟩ => ⟨S32768x2048, .f32⟩
  | .hbm, ⟨45, _⟩ => ⟨S32768x2048, .f32⟩
  | .hbm, ⟨46, _⟩ => ⟨S_, .f32⟩
  | .hbm, ⟨47, _⟩ => ⟨S32768, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S32768x1, .f32⟩
  | .hbm, ⟨56, _⟩ => ⟨S32768x2048, .f32⟩
  | .hbm, ⟨57, _⟩ => ⟨S32768x2048, .f32⟩
  | .hbm, ⟨58, _⟩ => ⟨S1x2048, .f32⟩
  | .hbm, ⟨59, _⟩ => ⟨S32768x2048, .f32⟩
  | .hbm, ⟨60, _⟩ => ⟨S32768x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Kernel2.lean ====
abbrev S4x8192x2048 : Shape := ⟨3, ![4, 8192, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S2048 : Shape := ⟨1, ![2048]⟩
abbrev S32768x2048 : Shape := ⟨2, ![32768, 2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S1x2048x256 : Shape := ⟨3, ![1, 2048, 256]⟩
abbrev S2048x256 : Shape := ⟨2, ![2048, 256]⟩
abbrev S1024x256 : Shape := ⟨2, ![1024, 256]⟩
abbrev S1x256x2048 : Shape := ⟨3, ![1, 256, 2048]⟩
abbrev S256x2048 : Shape := ⟨2, ![256, 2048]⟩

abbrev nBuf : Space → Nat
  | .hbm => 15
  | .vmem => 13
  | .smem => 0
  | _ => 0

abbrev bufTy : (tb : Table) → Fin (tcTables nBuf tb) → BufTy
  | .hbm, ⟨0, _⟩ => ⟨S4x8192x2048, .f32⟩
  | .hbm, ⟨1, _⟩ => ⟨S4x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S2048, .f32⟩
  | .hbm, ⟨6, _⟩ => ⟨S4x2048x5632, .bf16⟩
  | .hbm, ⟨7, _⟩ => ⟨S4x2048x5632, .bf16⟩
  | .hbm, ⟨8, _⟩ => ⟨S4x5632x2048, .bf16⟩
  | .hbm, ⟨9, _⟩ => ⟨S32768x2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 1 := Scalar.cmpi .sge arg1 c10_i32
  let v1 : BitVec 32 := Scalar.extui v0
  let v2 : BitVec 32 := Scalar.addi arg0 v1
  let c31_i32 : BitVec 32 := 31#32
  let v3 : BitVec 32 := Scalar.minsi v2 c31_i32
  let c0_i32 : BitVec 32 := 0#32
  let c0_i32_0 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S4x8192x2048 : Shape := ⟨3, ![4, 8192, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S2048 : Shape := ⟨1, ![2048]⟩
abbrev S32768x2048 : Shape := ⟨2, ![32768, 2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩
abbrev S1x2048x5632 : Shape := ⟨3, ![1, 2048, 5632]⟩
abbrev S2048x5632 : Shape := ⟨2, ![2048, 5632]⟩
abbrev S32768x5632 : Shape := ⟨2, ![32768, 5632]⟩
abbrev S1x5632x2048 : Shape := ⟨3, ![1, 5632, 2048]⟩
abbrev S5632x2048 : Shape := ⟨2, ![5632, 2048]⟩

abbrev nBuf : Space → Nat
  | .hbm => 45
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S2048, .f32⟩
  | .hbm, ⟨6, _⟩ => ⟨S32768x2048, .f32⟩
  | .hbm, ⟨7, _⟩ => ⟨S1x2048, .f32⟩
  | .hbm, ⟨8, _⟩ => ⟨S2048, .f32⟩
  | .hbm, ⟨9, _⟩ => ⟨S32768x2048, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x2048, .f32⟩
  | .hbm, ⟨21, _⟩ => ⟨S32768x2048, .f32⟩
  | .hbm, ⟨22, _⟩ => ⟨S1x2048, .f32⟩
  | .hbm, ⟨23, _⟩ => ⟨S32768x2048, .f32⟩
  | .hbm, ⟨24, _⟩ => ⟨S32768x2048, .f32⟩
  | .hbm, ⟨25, _⟩ => ⟨S1x2048x5632, .f32⟩
  | .hbm, ⟨26, _⟩ => ⟨S2048x5632, .f32⟩
  | .hbm, ⟨27, _⟩ => ⟨S32768x5632, .f32⟩
  | .hbm, ⟨28, _⟩ => ⟨S32768x5632, .f32⟩
  | .hbm, ⟨29, _⟩ => ⟨S32768x5632, .f32⟩
  | .hbm, ⟨30, _⟩ => ⟨S_, .f32⟩
  | .hbm, ⟨31, _⟩ => ⟨S32768x5632, .f32⟩
  | .hbm, ⟨32, _⟩ => ⟨S32768x5632, .f32⟩
  | .hbm, ⟨33, _⟩ => ⟨S_, .f32⟩
  | .hbm, ⟨34, _⟩ => ⟨S32768x5632, .f32⟩
  | .hbm, ⟨35, _⟩ => ⟨S32768x5632, .f32⟩
  | .hbm, ⟨36, _⟩ => ⟨S32768x5632, .f32⟩
  | .hbm, ⟨37, _⟩ => ⟨S1x2048x5632, .f32⟩
  | .hbm, ⟨38, _⟩ => ⟨S2048x5632, .f32⟩
  | .hbm, ⟨39, _⟩ => ⟨S32768x5632, .f32⟩
  | .hbm, ⟨40, _⟩ => ⟨S32768x5632, .f32⟩
  | .hbm, ⟨41, _⟩ => ⟨S1x5632x2048, .f32⟩
  | .hbm, ⟨42, _⟩ => ⟨S5632x2048, .f32⟩
  | .hbm, ⟨43, _⟩ => ⟨S32768x2048, .f32⟩
  | .hbm, ⟨44, _⟩ => ⟨S32768x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Kernel3.lean ====
abbrev S4x8192x2048 : Shape := ⟨3, ![4, 8192, 2048]⟩
abbrev S4x2048 : Shape := ⟨2, ![4, 2048]⟩
abbrev S4x2048x4360 : Shape := ⟨3, ![4, 2048, 4360]⟩
abbrev S4x512 : Shape := ⟨2, ![4, 512]⟩
abbrev S4x4x1024 : Shape := ⟨3, ![4, 4, 1024]⟩
abbrev S4x4 : Shape := ⟨2, ![4, 4]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S8192x56 : Shape := ⟨2, ![8192, 56]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S4x2048x4480 : Shape := ⟨3, ![4, 2048, 4480]⟩
abbrev S1x4 : Shape := ⟨2, ![1, 4]⟩
abbrev S4 : Shape := ⟨1, ![4]⟩
abbrev S128 : Shape := ⟨1, ![128]⟩
abbrev S32768x2048 : Shape := ⟨2, ![32768, 2048]⟩
abbrev S1x2048 : Shape := ⟨2, ![1, 2048]⟩
abbrev S2048 : Shape := ⟨1, ![2048]⟩
abbrev S1x512 : Shape := ⟨2, ![1, 512]⟩
abbrev S512 : Shape := ⟨1, ![512]⟩
abbrev S1x4x1024 : Shape := ⟨3, ![1, 4, 1024]⟩
abbrev S4x1024 : Shape := ⟨2, ![4, 1024]⟩
abbrev S1x128 : Shape := ⟨2, ![1, 128]⟩
abbrev S32768x4352 : Shape := ⟨2, ![32768, 4352]⟩
abbrev S32768x128 : Shape := ⟨2, ![32768, 128]⟩
abbrev S512x2048 : Shape := ⟨2, ![512, 2048]⟩
abbrev S1x2048x4480 : Shape := ⟨3, ![1, 2048, 4480]⟩
abbrev S512x128 : Shape := ⟨2, ![512, 128]⟩
abbrev S512x4352 : Shape := ⟨2, ![512, 4352]⟩
abbrev S520x1024 : Shape := ⟨2, ![520, 1024]⟩
abbrev S512x512 : Shape := ⟨2, ![512, 512]⟩
abbrev S512x1 : Shape := ⟨2, ![512, 1]⟩
abbrev S8x1024 : Shape := ⟨2, ![8, 1024]⟩
abbrev S1x2048x256 : Shape := ⟨3, ![1, 2048, 256]⟩
abbrev S2048x256 : Shape := ⟨2, ![2048, 256]⟩
abbrev S512x256 : Shape := ⟨2, ![512, 256]⟩
abbrev S520x128 : Shape := ⟨2, ![520, 128]⟩
abbrev S512x1024 : Shape := ⟨2, ![512, 1024]⟩
abbrev S1x2048x128 : Shape := ⟨3, ![1, 2048, 128]⟩
abbrev S2048x128 : Shape := ⟨2, ![2048, 128]⟩

abbrev nBuf : Space → Nat
  | .hbm => 74
  | .vmem => 22
  | .smem => 0
  | _ => 0

abbrev bufTy : (tb : Table) → Fin (tcTables nBuf tb) → BufTy
  | .hbm, ⟨0, _⟩ => ⟨S4x8192x2048, .f32⟩
  | .hbm, ⟨1, _⟩ => ⟨S4x2048, .f32⟩
  | .hbm, ⟨2, _⟩ => ⟨S4x2048x4360, .f32⟩
  | .hbm, ⟨3, _⟩ => ⟨S4x512, .f32⟩
  | .hbm, ⟨4, _⟩ => ⟨S4x4x1024, .f32⟩
  | .hbm, ⟨5, _⟩ => ⟨S4x4, .f32⟩
  | .hbm, ⟨6, _⟩ => ⟨S4x4, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S8192, .f32⟩
  | .hbm, ⟨22, _⟩ => ⟨S8192x1, .f32⟩
  | .hbm, ⟨23, _⟩ => ⟨S1x8, .f32⟩
  | .hbm, ⟨24, _⟩ => ⟨S8192x8, .f32⟩
  | .hbm, ⟨25, _⟩ => ⟨S8192x8, .f32⟩
  | .hbm, ⟨26, _⟩ => ⟨S8192x8, .f32⟩
  | .hbm, ⟨27, _⟩ => ⟨S8192x8, .f32⟩
  | .hbm, ⟨28, _⟩ => ⟨S8192x8, .f32⟩
  | .hbm, ⟨29, _⟩ => ⟨S_, .f32⟩
  | .hbm, ⟨30, _⟩ => ⟨S8192x48, .f32⟩
  | .hbm, ⟨31, _⟩ => ⟨S8192x64, .f32⟩
  | .hbm, ⟨32, _⟩ => ⟨S8192x8, .f32⟩
  | .hbm, ⟨33, _⟩ => ⟨S_, .f32⟩
  | .hbm, ⟨34, _⟩ => ⟨S8192x56, .f32⟩
  | .hbm, ⟨35, _⟩ => ⟨S8192x64, .f32⟩
  | .hbm, ⟨36, _⟩ => ⟨S_, .f32⟩
  | .hbm, ⟨37, _⟩ => ⟨S8192x8, .f32⟩
  | .hbm, ⟨38, _⟩ => ⟨S_, .f32⟩
  | .hbm, ⟨39, _⟩ => ⟨S8192x48, .f32⟩
  | .hbm, ⟨40, _⟩ => ⟨S8192x64, .f32⟩
  | .hbm, ⟨41, _⟩ => ⟨S1x8192x1x64, .f32⟩
  | .hbm, ⟨42, _⟩ => ⟨S1x8192x2x64, .f32⟩
  | .hbm, ⟨43, _⟩ => ⟨S8192x128, .f32⟩
  | .hbm, ⟨44, _⟩ => ⟨S1x8192x1x64, .f32⟩
  | .hbm, ⟨45, _⟩ => ⟨S1x8192x2x64, .f32⟩
  | .hbm, ⟨46, _⟩ => ⟨S8192x128, .f32⟩
  | .hbm, ⟨47, _⟩ => ⟨S1x8192x1x64, .f32⟩
  | .hbm, ⟨48, _⟩ => ⟨S1x8192x2x64, .f32⟩
  | .hbm, ⟨49, _⟩ => ⟨S8192x128, .f32⟩
  | .hbm, ⟨50, _⟩ => ⟨S4x2048x4360, .bf16⟩
  | .hbm, ⟨51, _⟩ => ⟨S_, .i32⟩
  | .hbm, ⟨52, _⟩ => ⟨S_, .bf16⟩
  | .hbm, ⟨53, _⟩ => ⟨S4x2048x4480, .bf16⟩
  | .hbm, ⟨54, _⟩ => ⟨S1x4, .f32⟩
  | .hbm, ⟨55, _⟩ => ⟨S4, .f32⟩
  | .hbm, ⟨56, _⟩ => ⟨S1x4, .f32⟩
  | .hbm, ⟨57, _⟩ => ⟨S4, .f32⟩
  | .hbm, ⟨58, _⟩ => ⟨S8, .f32⟩
  | .hbm, ⟨59, _⟩ => ⟨S_, .i32⟩
  | .hbm, ⟨60, _⟩ => ⟨S_, .f32⟩
  | .hbm, ⟨61, _⟩ => ⟨S128, .f32⟩
  | .hbm, ⟨62, _⟩ => ⟨S32768x2048, .f32⟩
  | .hbm, ⟨63, _⟩ => ⟨S1x2048, .f32⟩
  | .hbm, ⟨64, _⟩ => ⟨S2048, .f32⟩
  | .hbm, ⟨65, _⟩ => ⟨S1x2048, .f32⟩
  | .hbm, ⟨66, _⟩ => ⟨S1x512, .f32⟩
  | .hbm, ⟨67, _⟩ => ⟨S512, .f32⟩
  | .hbm, ⟨68, _⟩ => ⟨S1x512, .f32⟩
  | .hbm, ⟨69, _⟩ => ⟨S1x4x1024, .f32⟩
  | .hbm, ⟨70, _⟩ => ⟨S4x1024, .f32⟩
  | .hbm, ⟨71, _⟩ => ⟨S1x128, .f32⟩
  | .hbm, ⟨72, _⟩ => ⟨S32768x4352, .bf16⟩
  | .hbm, ⟨73, _⟩ => ⟨S32768x128, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S1x2048, .f32⟩
  | .local _ .vmem, ⟨4, _⟩ => ⟨S1x2048x4480, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S1x512, .f32⟩
  | .local _ .vmem, ⟨12, _⟩ => ⟨S4x1024, .f32⟩
  | .local _ .vmem, ⟨13, _⟩ => ⟨S1x128, .f32⟩
  | .local _ .vmem, ⟨14, _⟩ => ⟨S512x4352, .bf16⟩
  | .local _ .vmem, ⟨15, _⟩ => ⟨S512x4352, .bf16⟩
  | .local _ .vmem, ⟨16, _⟩ => ⟨S512x128, .f32⟩
  | .local _ .vmem, ⟨17, _⟩ => ⟨S512x128, .f32⟩
  | .local _ .vmem, ⟨18, _⟩ => ⟨S520x1024, .f32⟩
  | .local _ .vmem, ⟨19, _⟩ => ⟨S512x512, .f32⟩
  | .local _ .vmem, ⟨20, _⟩ => ⟨S512x2048, .bf16⟩
  | .local _ .vmem, ⟨21, _⟩ => ⟨S512x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c : Ref sig .tc := ⟨.hbm, 51, rfl⟩
abbrev main_call0_v0 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_7 : Ref sig .tc := ⟨.hbm, 59, rfl⟩
abbrev main_call1_v0 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53_0 : Ref sig .tc := ⟨.hbm, 72, rfl⟩
abbrev main_v53_1 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def k0_cond3 (i : grid0.Coords) : BitVec 1 :=
  let arg0 : BitVec 32 := BitVec.ofNat 32 (i 0).val
  let c2_i32 : BitVec 32 := 2#32
  let c0_i32_7 : BitVec 32 := 0#32
  let v16 : BitVec 1 := Scalar.cmpi .eq c2_i32 c0_i32_7
  let c1_i32_8 : BitVec 32 := 1#32
  let v17 : BitVec 32 := Scalar.select v16 c1_i32_8 c2_i32
  let v18 : BitVec 32 := Scalar.remsi arg0 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let c0_i32_12 : BitVec 32 := 0#32
  let v26 : BitVec 1 := Scalar.cmpi .eq v25 c0_i32_12
  let v27 : BitVec 32 := Scalar.extui v26
  let c0_i32_13 : BitVec 32 := 0#32
  let v28 : BitVec 1 := Scalar.cmpi .ne v27 c0_i32_13
  v28

def k0_cond4 (i : grid0.Coords) : BitVec 1 :=
  let arg0 : BitVec 32 := BitVec.ofNat 32 (i 0).val
  let c2_i32_14 : BitVec 32 := 2#32
  let c0_i32_15 : BitVec 32 := 0#32
  let v29 : BitVec 1 := Scalar.cmpi .eq c2_i32_14 c0_i32_15
  let c1_i32_16 : BitVec 32 := 1#32
  let v30 : BitVec 32 := Scalar.select v29 c1_i32_16 c2_i32_14
  let v31 : BitVec 32 := Scalar.remsi arg0 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c1_i32_20 : BitVec 32 := 1#32
  let v39 : BitVec 1 := Scalar.cmpi .eq v38 c1_i32_20
  let v40 : BitVec 32 := Scalar.extui v39
  let c0_i32_21 : BitVec 32 := 0#32
  let v41 : BitVec 1 := Scalar.cmpi .ne v40 c0_i32_21
  v41

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x4480 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x4352 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel3Ideal.lean ====
variable {F : FTy → Type} [FloatOps F] [Named F]
def κ : String → Option EReal := fun
  | "gelu_cub" => some ((((-1) * ((6693141 / 4194304) * (Real.log 2)⁻¹)) * (12003091 / 268435456) : ℝ) : EReal)
  | "gelu_lin" => some (((-1) * ((6693141 / 4194304) * (Real.log 2)⁻¹) : ℝ) : EReal)
  | _ => none
-- ==== Reference3Ideal.lean ====
abbrev S4x8192x2048 : Shape := ⟨3, ![4, 8192, 2048]⟩
abbrev S4x2048 : Shape := ⟨2, ![4, 2048]⟩
abbrev S4x2048x4360 : Shape := ⟨3, ![4, 2048, 4360]⟩
abbrev S4x512 : Shape := ⟨2, ![4, 512]⟩
abbrev S4x4x1024 : Shape := ⟨3, ![4, 4, 1024]⟩
abbrev S4x4 : Shape := ⟨2, ![4, 4]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S1x2048 : Shape := ⟨2, ![1, 2048]⟩
abbrev S2048 : Shape := ⟨1, ![2048]⟩
abbrev S4x8192 : Shape := ⟨2, ![4, 8192]⟩
abbrev S4x8192x1 : Shape := ⟨3, ![4, 8192, 1]⟩
abbrev S1x1x2048 : Shape := ⟨3, ![1, 1, 2048]⟩
abbrev S1x2048x4360 : Shape := ⟨3, ![1, 2048, 4360]⟩
abbrev S2048x4360 : Shape := ⟨2, ![2048, 4360]⟩
abbrev S4x8192x4360 : Shape := ⟨3, ![4, 8192, 4360]⟩
abbrev S4x8192x512 : Shape := ⟨3, ![4, 8192, 512]⟩
abbrev S4x8192x1024 : Shape := ⟨3, ![4, 8192, 1024]⟩
abbrev S4x8192x128 : Shape := ⟨3, ![4, 8192, 128]⟩
abbrev S4x8192x4 : Shape := ⟨3, ![4, 8192, 4]⟩
abbrev S1x512 : Shape := ⟨2, ![1, 512]⟩
abbrev S512 : Shape := ⟨1, ![512]⟩
abbrev S1x1x512 : Shape := ⟨3, ![1, 1, 512]⟩
abbrev S4x8192x16x64 : Shape := ⟨4, ![4, 8192, 16, 64]⟩
abbrev S4x8192x16x16 : Shape := ⟨4, ![4, 8192, 16, 16]⟩
abbrev S4x8192x16x48 : Shape := ⟨4, ![4, 8192, 16, 48]⟩
abbrev S4x8192x16x8 : Shape := ⟨4, ![4, 8192, 16, 8]⟩
abbrev S1x8192x1x8 : Shape := ⟨4, ![1, 8192, 1, 8]⟩
abbrev S4x8192x2x64 : Shape := ⟨4, ![4, 8192, 2, 64]⟩
abbrev S4x8192x2x16 : Shape := ⟨4, ![4, 8192, 2, 16]⟩
abbrev S4x8192x2x48 : Shape := ⟨4, ![4, 8192, 2, 48]⟩
abbrev S4x8192x2x8 : Shape := ⟨4, ![4, 8192, 2, 8]⟩
abbrev S1x4x1024 : Shape := ⟨3, ![1, 4, 1024]⟩
abbrev S4x1024 : Shape := ⟨2, ![4, 1024]⟩
abbrev S4x8195x1024 : Shape := ⟨3, ![4, 8195, 1024]⟩
abbrev S1x1024 : Shape := ⟨2, ![1, 1024]⟩
abbrev S1024 : Shape := ⟨1, ![1024]⟩
abbrev S1x1x1024 : Shape := ⟨3, ![1, 1, 1024]⟩
abbrev S1x4 : Shape := ⟨2, ![1, 4]⟩
abbrev S4 : Shape := ⟨1, ![4]⟩
abbrev S1x1x4 : Shape := ⟨3, ![1, 1, 4]⟩
abbrev S4x8192x4352 : Shape := ⟨3, ![4, 8192, 4352]⟩
abbrev S4x8192x120 : Shape := ⟨3, ![4, 8192, 120]⟩
abbrev S32768x4352 : Shape := ⟨2, ![32768, 4352]⟩
abbrev S32768x128 : Shape := ⟨2, ![32768, 128]⟩

abbrev nBuf : Space → Nat
  | .hbm => 240
  | .vmem => 0
  | .smem => 0
  | _ => 0

abbrev hbmTy0_0 (i : Nat) : BufTy := match i % 128 with
  | 0 => ⟨S4x8192x2048, .f32⟩
  | 1 => ⟨S4x2048, .f32⟩
  | 2 => ⟨S4x2048x4360, .f32⟩
  | 3 => ⟨S4x512, .f32⟩
  | 4 => ⟨S4x4x1024, .f32⟩
  | 5 => ⟨S4x4, .f32⟩
  | 6 => ⟨S4x4, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S8192, .f32⟩
  | 22 => ⟨S8192x1, .f32⟩
  | 23 => ⟨S1x8, .f32⟩
  | 24 => ⟨S8192x8, .f32⟩
  | 25 => ⟨S8192x8, .f32⟩
  | 26 => ⟨S8192x8, .f32⟩
  | 27 => ⟨S8192x8, .f32⟩
  | 28 => ⟨S8192x8, .f32⟩
  | 29 => ⟨S1x2048, .f32⟩
  | 30 => ⟨S2048, .f32⟩
  | 31 => ⟨S4x8192x2048, .f32⟩
  | 32 => ⟨S_, .f32⟩
  | 33 => ⟨S4x8192, .f32⟩
  | 34 => ⟨S4x8192x1, .f32⟩
  | 35 => ⟨S_, .f32⟩
  | 36 => ⟨S4x8192x1, .f32⟩
  | 37 => ⟨S4x8192x1, .f32⟩
  | 38 => ⟨S_, .f32⟩
  | 39 => ⟨S4x8192x1, .f32⟩
  | 40 => ⟨S4x8192x1, .f32⟩
  | 41 => ⟨S4x8192x1, .f32⟩
  | 42 => ⟨S4x8192x2048, .f32⟩
  | 43 => ⟨S4x8192x2048, .f32⟩
  | 44 => ⟨S1x1x2048, .f32⟩
  | 45 => ⟨S4x8192x2048, .f32⟩
  | 46 => ⟨S4x8192x2048, .f32⟩
  | 47 => ⟨S1x2048x4360, .f32⟩
  | 48 => ⟨S2048x4360, .f32⟩
  | 49 => ⟨S4x8192x4360, .f32⟩
  | 50 => ⟨S4x8192x512, .f32⟩
  | 51 => ⟨S4x8192x512, .f32⟩
  | 52 => ⟨S4x8192x1024, .f32⟩
  | 53 => ⟨S4x8192x128, .f32⟩
  | 54 => ⟨S4x8192x128, .f32⟩
  | 55 => ⟨S4x8192x1024, .f32⟩
  | 56 => ⟨S4x8192x512, .f32⟩
  | 57 => ⟨S4x8192x512, .f32⟩
  | 58 => ⟨S4x8192x4, .f32⟩
  | 59 => ⟨S4x8192x4, .f32⟩
  | 60 => ⟨S4x8192x512, .f32⟩
  | 61 => ⟨S4x8192x512, .f32⟩
  | 62 => ⟨S_, .f32⟩
  | 63 => ⟨S4x8192x512, .f32⟩
  | 64 => ⟨S4x8192x512, .f32⟩
  | 65 => ⟨S4x8192x512, .f32⟩
  | 66 => ⟨S_, .f32⟩
  | 67 => ⟨S4x8192x512, .f32⟩
  | 68 => ⟨S4x8192x512, .f32⟩
  | 69 => ⟨S4x8192x512, .f32⟩
  | 70 => ⟨S_, .f32⟩
  | 71 => ⟨S4x8192x512, .f32⟩
  | 72 => ⟨S4x8192x512, .f32⟩
  | 73 => ⟨S_, .f32⟩
  | 74 => ⟨S4x8192x512, .f32⟩
  | 75 => ⟨S4x8192x512, .f32⟩
  | 76 => ⟨S4x8192x512, .f32⟩
  | 77 => ⟨S4x8192x512, .f32⟩
  | 78 => ⟨S4x8192x512, .f32⟩
  | 79 => ⟨S_, .f32⟩
  | 80 => ⟨S4x8192x512, .f32⟩
  | 81 => ⟨S4x8192x512, .f32⟩
  | 82 => ⟨S4x8192x512, .f32⟩
  | 83 => ⟨S_, .f32⟩
  | 84 => ⟨S4x8192x512, .f32⟩
  | 85 => ⟨S4x8192x512, .f32⟩
  | 86 => ⟨S4x8192x512, .f32⟩
  | 87 => ⟨S_, .f32⟩
  | 88 => ⟨S4x8192x512, .f32⟩
  | 89 => ⟨S4x8192x512, .f32⟩
  | 90 => ⟨S_, .f32⟩
  | 91 => ⟨S4x8192x512, .f32⟩
  | 92 => ⟨S4x8192x512, .f32⟩
  | 93 => ⟨S4x8192x512, .f32⟩
  | 94 => ⟨S1x512, .f32⟩
  | 95 => ⟨S512, .f32⟩
  | 96 => ⟨S4x8192x512, .f32⟩
  | 97 => ⟨S_, .f32⟩
  | 98 => ⟨S4x8192, .f32⟩
  | 99 => ⟨S4x8192x1, .f32⟩
  | 100 => ⟨S_, .f32⟩
  | 101 => ⟨S4x8192x1, .f32⟩
  | 102 => ⟨S4x8192x1, .f32⟩
  | 103 => ⟨S_, .f32⟩
  | 104 => ⟨S4x8192x1, .f32⟩
  | 105 => ⟨S4x8192x1, .f32⟩
  | 106 => ⟨S4x8192x1, .f32⟩
  | 107 => ⟨S4x8192x512, .f32⟩
  | 108 => ⟨S4x8192x512, .f32⟩
  | 109 => ⟨S1x1x512, .f32⟩
  | 110 => ⟨S4x8192x512, .f32⟩
  | 111 => ⟨S4x8192x512, .f32⟩
  | 112 => ⟨S4x8192x16x64, .f32⟩
  | 113 => ⟨S4x8192x16x16, .f32⟩
  | 114 => ⟨S4x8192x16x48, .f32⟩
  | 115 => ⟨S4x8192x16x8, .f32⟩
  | 116 => ⟨S4x8192x16x8, .f32⟩
  | 117 => ⟨S1x8192x1x8, .f32⟩
  | 118 => ⟨S1x8192x1x8, .f32⟩
  | 119 => ⟨S4x8192x16x8, .f32⟩
  | 120 => ⟨S4x8192x16x8, .f32⟩
  | 121 => ⟨S4x8192x16x8, .f32⟩
  | 122 => ⟨S4x8192x16x8, .f32⟩
  | 123 => ⟨S4x8192x16x8, .f32⟩
  | 124 => ⟨S4x8192x16x8, .f32⟩
  | 125 => ⟨S4x8192x16x8, .f32⟩
  | 126 => ⟨S4x8192x16x8, .f32⟩
  | 127 => ⟨S4x8192x16x8, .f32⟩
  | _ => ⟨S4x8192x2048, .f32⟩

abbrev hbmTy0_1 (i : Nat) : BufTy := match i % 128 with
  | 0 => ⟨S4x8192x16x8, .f32⟩
  | 1 => ⟨S4x8192x16x64, .f32⟩
  | 2 => ⟨S_, .f32⟩
  | 3 => ⟨S4x8192x16x64, .f32⟩
  | 4 => ⟨S4x8192x16x64, .f32⟩
  | 5 => ⟨S4x8192x2x64, .f32⟩
  | 6 => ⟨S4x8192x2x16, .f32⟩
  | 7 => ⟨S4x8192x2x48, .f32⟩
  | 8 => ⟨S4x8192x2x8, .f32⟩
  | 9 => ⟨S4x8192x2x8, .f32⟩
  | 10 => ⟨S1x8192x1x8, .f32⟩
  | 11 => ⟨S1x8192x1x8, .f32⟩
  | 12 => ⟨S4x8192x2x8, .f32⟩
  | 13 => ⟨S4x8192x2x8, .f32⟩
  | 14 => ⟨S4x8192x2x8, .f32⟩
  | 15 => ⟨S4x8192x2x8, .f32⟩
  | 16 => ⟨S4x8192x2x8, .f32⟩
  | 17 => ⟨S4x8192x2x8, .f32⟩
  | 18 => ⟨S4x8192x2x8, .f32⟩
  | 19 => ⟨S4x8192x2x8, .f32⟩
  | 20 => ⟨S4x8192x2x8, .f32⟩
  | 21 => ⟨S4x8192x2x8, .f32⟩
  | 22 => ⟨S4x8192x2x64, .f32⟩
  | 23 => ⟨S1x4x1024, .f32⟩
  | 24 => ⟨S4x1024, .f32⟩
  | 25 => ⟨S_, .i32⟩
  | 26 => ⟨S_, .f32⟩
  | 27 => ⟨S4x8195x1024, .f32⟩
  | 28 => ⟨S4x8192x1024, .f32⟩
  | 29 => ⟨S1x1024, .f32⟩
  | 30 => ⟨S1024, .f32⟩
  | 31 => ⟨S1x1x1024, .f32⟩
  | 32 => ⟨S4x8192x1024, .f32⟩
  | 33 => ⟨S4x8192x1024, .f32⟩
  | 34 => ⟨S4x8192x1024, .f32⟩
  | 35 => ⟨S1x1024, .f32⟩
  | 36 => ⟨S1024, .f32⟩
  | 37 => ⟨S1x1x1024, .f32⟩
  | 38 => ⟨S4x8192x1024, .f32⟩
  | 39 => ⟨S4x8192x1024, .f32⟩
  | 40 => ⟨S4x8192x1024, .f32⟩
  | 41 => ⟨S4x8192x1024, .f32⟩
  | 42 => ⟨S1x1024, .f32⟩
  | 43 => ⟨S1024, .f32⟩
  | 44 => ⟨S1x1x1024, .f32⟩
  | 45 => ⟨S4x8192x1024, .f32⟩
  | 46 => ⟨S4x8192x1024, .f32⟩
  | 47 => ⟨S4x8192x1024, .f32⟩
  | 48 => ⟨S4x8192x1024, .f32⟩
  | 49 => ⟨S1x1024, .f32⟩
  | 50 => ⟨S1024, .f32⟩
  | 51 => ⟨S1x1x1024, .f32⟩
  | 52 => ⟨S4x8192x1024, .f32⟩
  | 53 => ⟨S4x8192x1024, .f32⟩
  | 54 => ⟨S4x8192x1024, .f32⟩
  | 55 => ⟨S4x8192x1024, .f32⟩
  | 56 => ⟨S4x8192x1024, .f32⟩
  | 57 => ⟨S_, .f32⟩
  | 58 => ⟨S4x8192x1024, .f32⟩
  | 59 => ⟨S4x8192x1024, .f32⟩
  | 60 => ⟨S_, .f32⟩
  | 61 => ⟨S4x8192x1024, .f32⟩
  | 62 => ⟨S4x8192x1024, .f32⟩
  | 63 => ⟨S4x8192x1024, .f32⟩
  | 64 => ⟨S4x8192x512, .f32⟩
  | 65 => ⟨S4x8192x512, .f32⟩
  | 66 => ⟨S_, .f32⟩
  | 67 => ⟨S4x8192x512, .f32⟩
  | 68 => ⟨S4x8192x512, .f32⟩
  | 69 => ⟨S4x8192x512, .f32⟩
  | 70 => ⟨S4x8192x512, .f32⟩
  | 71 => ⟨S_, .f32⟩
  | 72 => ⟨S4x8192x512, .f32⟩
  | 73 => ⟨S4x8192x512, .f32⟩
  | 74 => ⟨S_, .f32⟩
  | 75 => ⟨S4x8192x512, .f32⟩
  | 76 => ⟨S4x8192x512, .f32⟩
  | 77 => ⟨S1x4, .f32⟩
  | 78 => ⟨S4, .f32⟩
  | 79 => ⟨S1x1x4, .f32⟩
  | 80 => ⟨S4x8192x4, .f32⟩
  | 81 => ⟨S4x8192x4, .f32⟩
  | 82 => ⟨S1x4, .f32⟩
  | 83 => ⟨S4, .f32⟩
  | 84 => ⟨S1x1x4, .f32⟩
  | 85 => ⟨S4x8192x4, .f32⟩
  | 86 => ⟨S4x8192x4, .f32⟩
  | 87 => ⟨S4x8192x4, .f32⟩
  | 88 => ⟨S_, .f32⟩
  | 89 => ⟨S4x8192x4, .f32⟩
  | 90 => ⟨S4x8192x4, .f32⟩
  | 91 => ⟨S4x8192x4, .f32⟩
  | 92 => ⟨S4x8192x4, .f32⟩
  | 93 => ⟨S4x8192x4, .i1⟩
  | 94 => ⟨S4x8192x4, .f32⟩
  | 95 => ⟨S4x8192x4, .f32⟩
  | 96 => ⟨S4x8192x4, .f32⟩
  | 97 => ⟨S4x8192x4, .f32⟩
  | 98 => ⟨S4x8192x4, .f32⟩
  | 99 => ⟨S4x8192x4, .f32⟩
  | 100 => ⟨S4x8192x4, .f32⟩
  | 101 => ⟨S4x8192x4, .f32⟩
  | 102 => ⟨S4x8192x4, .f32⟩
  | 103 => ⟨S4x8192x1024, .f32⟩
  | 104 => ⟨S4x8192x128, .f32⟩
  | 105 => ⟨S4x8192x4352, .f32⟩
  | 106 => ⟨S_, .f32⟩
  | 107 => ⟨S4x8192x120, .f32⟩
  | 108 => ⟨S4x8192x128, .f32⟩
  | 109 => ⟨S32768x4352, .f32⟩
  | 110 => ⟨S32768x4352, .bf16⟩
  | 111 => ⟨S32768x128, .f32⟩
  | _ => ⟨S4x8192x2048, .f32⟩

abbrev hbmTy (i : Nat) : BufTy := match i / 128 with
  | 0 => hbmTy0_0 i
  | 1 => hbmTy0_1 i
  | _ => ⟨S4x8192x2048, .f32⟩

abbrev bufTy : (tb : Table) → Fin (tcTables nBuf tb) → BufTy
  | .hbm, ⟨i, _⟩ => hbmTy i
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_10 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_11 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_12 : Ref sig .tc := ⟨.hbm, 87, rfl⟩
abbrev main_v67 : Ref sig .tc := ⟨.hbm, 88, rfl⟩
abbrev main_v68 : Ref sig .tc := ⟨.hbm, 89, rfl⟩
abbrev main_cst_13 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_14 : Ref sig .tc := ⟨.hbm, 97, rfl⟩
abbrev main_v75 : Ref sig .tc := ⟨.hbm, 98, rfl⟩
abbrev main_v76 : Ref sig .tc := ⟨.hbm, 99, rfl⟩
abbrev main_cst_15 : Ref sig .tc := ⟨.hbm, 100, rfl⟩
abbrev main_v77 : Ref sig .tc := ⟨.hbm, 101, rfl⟩
abbrev main_v78 : Ref sig .tc := ⟨.hbm, 102, rfl⟩
abbrev main_cst_16 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_cst_17 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_c : Ref sig .tc := ⟨.hbm, 153, rfl⟩
abbrev main_call0_v0 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_call1_v0 : Ref sig .tc := ⟨.hbm, 183, rfl⟩
abbrev main_call1_v1 : Ref sig .tc := ⟨.hbm, 184, rfl⟩
abbrev main_call1_cst : Ref sig .tc := ⟨.hbm, 185, rfl⟩
abbrev main_call1_v2 : Ref sig .tc := ⟨.hbm, 186, rfl⟩
abbrev main_call1_v3 : Ref sig .tc := ⟨.hbm, 187, rfl⟩
abbrev main_call1_cst_0 : Ref sig .tc := ⟨.hbm, 188, rfl⟩
abbrev main_call1_v4 : Ref sig .tc := ⟨.hbm, 189, rfl⟩
abbrev main_call1_v5 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_cst_18 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_cst_19 : Ref sig .tc := ⟨.hbm, 199, rfl⟩
abbrev main_v162 : Ref sig .tc := ⟨.hbm, 200, rfl⟩
abbrev main_v163 : Ref sig .tc := ⟨.hbm, 201, rfl⟩
abbrev main_cst_20 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_call2_v0 : Ref sig .tc := ⟨.hbm, 215, rfl⟩
abbrev main_call2_call0_cst : Ref sig .tc := ⟨.hbm, 216, rfl⟩
abbrev main_call2_call0_v0 : Ref sig .tc := ⟨.hbm, 217, rfl⟩
abbrev main_call2_call0_v1 : Ref sig .tc := ⟨.hbm, 218, rfl⟩
abbrev main_call2_call0_v2 : Ref sig .tc := ⟨.hbm, 219, rfl⟩
abbrev main_call2_call0_v3 : Ref sig .tc := ⟨.hbm, 220, rfl⟩
abbrev main_call2_call0_v4 : Ref sig .tc := ⟨.hbm, 221, rfl⟩
abbrev main_call2_call0_v5 : Ref sig .tc := ⟨.hbm, 222, rfl⟩
abbrev main_call2_call0_v6 : Ref sig .tc := ⟨.hbm, 223, rfl⟩
abbrev main_call2_call0_v7 : Ref sig .tc := ⟨.hbm, 224, rfl⟩
abbrev main_call2_call0_v8 : Ref sig .tc := ⟨.hbm, 225, rfl⟩
abbrev main_call2_call0_v9 : Ref sig .tc := ⟨.hbm, 226, rfl⟩
abbrev main_call2_call0_v10 : Ref sig .tc := ⟨.hbm, 227, rfl⟩
abbrev main_call2_call0_v11 : Ref sig .tc := ⟨.hbm, 228, rfl⟩
abbrev main_call2_v1 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_cst_21 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩

abbrev nD : Nat := 1
abbrev τ : Topo := Topo.v7x

variable {F : FTy → Type} [FloatOps F]
-- ==== Kernel4.lean ====
abbrev S32768x4352 : Shape := ⟨2, ![32768, 4352]⟩
abbrev S32768x128 : Shape := ⟨2, ![32768, 128]⟩
abbrev S4x8192x2048 : Shape := ⟨3, ![4, 8192, 2048]⟩
abbrev S4x4x128x128 : Shape := ⟨4, ![4, 4, 128, 128]⟩
abbrev S4x4x128 : Shape := ⟨3, ![4, 4, 128]⟩
abbrev S4x16 : Shape := ⟨2, ![4, 16]⟩
abbrev S4x512 : Shape := ⟨2, ![4, 512]⟩
abbrev S4x2048x2048 : Shape := ⟨3, ![4, 2048, 2048]⟩
abbrev S1x4x128x128 : Shape := ⟨4, ![1, 4, 128, 128]⟩
abbrev S4x128x128 : Shape := ⟨3, ![4, 128, 128]⟩
abbrev S1x4x128 : Shape := ⟨3, ![1, 4, 128]⟩
abbrev S4x128 : Shape := ⟨2, ![4, 128]⟩
abbrev S128x4 : Shape := ⟨2, ![128, 4]⟩
abbrev S1x16 : Shape := ⟨2, ![1, 16]⟩
abbrev S16 : Shape := ⟨1, ![16]⟩
abbrev S1x512 : Shape := ⟨2, ![1, 512]⟩
abbrev S512 : Shape := ⟨1, ![512]⟩
abbrev S32768x2048 : Shape := ⟨2, ![32768, 2048]⟩
abbrev S4x8192x4352 : Shape := ⟨3, ![4, 8192, 4352]⟩
abbrev S4x8192x128 : Shape := ⟨3, ![4, 8192, 128]⟩
abbrev S4x128x4352 : Shape := ⟨3, ![4, 128, 4352]⟩
abbrev S4x128x2048 : Shape := ⟨3, ![4, 128, 2048]⟩
abbrev S1x2048x2048 : Shape := ⟨3, ![1, 2048, 2048]⟩
abbrev S4x2x512x128 : Shape := ⟨4, ![4, 2, 512, 128]⟩
abbrev S4x2x512x256 : Shape := ⟨4, ![4, 2, 512, 256]⟩
abbrev S4x4x128x256 : Shape := ⟨4, ![4, 4, 128, 256]⟩
abbrev S4x8x128 : Shape := ⟨3, ![4, 8, 128]⟩
abbrev S2x512x512 : Shape := ⟨3, ![2, 512, 512]⟩
abbrev S2x512x256 : Shape := ⟨3, ![2, 512, 256]⟩
abbrev S128x128 : Shape := ⟨2, ![128, 128]⟩
abbrev S1x128x128 : Shape := ⟨3, ![1, 128, 128]⟩
abbrev S128x1 : Shape := ⟨2, ![128, 1]⟩
abbrev S512x256 : Shape := ⟨2, ![512, 256]⟩
abbrev S512x128 : Shape := ⟨2, ![512, 128]⟩
abbrev S1x1x512x128 : Shape := ⟨4, ![1, 1, 512, 128]⟩
abbrev S1x1x512x256 : Shape := ⟨4, ![1, 1, 512, 256]⟩
abbrev S128x256 : Shape := ⟨2, ![128, 256]⟩
abbrev S1x256 : Shape := ⟨2, ![1, 256]⟩
abbrev S8x128 : Shape := ⟨2, ![8, 128]⟩
abbrev S120x128 : Shape := ⟨2, ![120, 128]⟩
abbrev S4x128x1024 : Shape := ⟨3, ![4, 128, 1024]⟩
abbrev S128x512 : Shape := ⟨2, ![128, 512]⟩
abbrev S1x1x128x128 : Shape := ⟨4, ![1, 1, 128, 128]⟩
abbrev S4x128x256 : Shape := ⟨3, ![4, 128, 256]⟩
abbrev S1x128x256 : Shape := ⟨3, ![1, 128, 256]⟩
abbrev S512x512 : Shape := ⟨2, ![512, 512]⟩
abbrev S1 : Shape := ⟨1, ![1]⟩
abbrev S128 : Shape := ⟨1, ![128]⟩
abbrev S1x512x512 : Shape := ⟨3, ![1, 512, 512]⟩
abbrev S4x128x1536 : Shape := ⟨3, ![4, 128, 1536]⟩
abbrev S512x1536 : Shape := ⟨2, ![512, 1536]⟩
abbrev S1x1536x2048 : Shape := ⟨3, ![1, 1536, 2048]⟩
abbrev S1536x2048 : Shape := ⟨2, ![1536, 2048]⟩
abbrev S512x2048 : Shape := ⟨2, ![512, 2048]⟩
abbrev S1x128 : Shape := ⟨2, ![1, 128]⟩
abbrev S1x1x1 : Shape := ⟨3, ![1, 1, 1]⟩
abbrev S1x1 : Shape := ⟨2, ![1, 1]⟩
abbrev S1x1x128x256 : Shape := ⟨4, ![1, 1, 128, 256]⟩
abbrev S1x1x128 : Shape := ⟨3, ![1, 1, 128]⟩
abbrev S4x128x512 : Shape := ⟨3, ![4, 128, 512]⟩
abbrev S1x512x2048 : Shape := ⟨3, ![1, 512, 2048]⟩

abbrev nBuf : Space → Nat
  | .hbm => 24
  | .vmem => 22
  | .smem => 1
  | _ => 0

abbrev bufTy : (tb : Table) → Fin (tcTables nBuf tb) → BufTy
  | .hbm, ⟨0, _⟩ => ⟨S32768x4352, .bf16⟩
  | .hbm, ⟨1, _⟩ => ⟨S32768x128, .f32⟩
  | .hbm, ⟨2, _⟩ => ⟨S4x8192x2048, .f32⟩
  | .hbm, ⟨3, _⟩ => ⟨S4x4x128x128, .f32⟩
  | .hbm, ⟨4, _⟩ => ⟨S4x4x128, .f32⟩
  | .hbm, ⟨5, _⟩ => ⟨S4x16, .f32⟩
  | .hbm, ⟨6, _⟩ => ⟨S4x512, .f32⟩
  | .hbm, ⟨7, _⟩ => ⟨S4x2048x2048, .f32⟩
  | .hbm, ⟨8, _⟩ => ⟨S4x2048x2048, .bf16⟩
  | .hbm, ⟨9, _⟩ => ⟨S1x4x128x128, .f32⟩
  | .hbm, ⟨10, _⟩ => ⟨S4x128x128, .f32⟩
  | .hbm, ⟨11, _⟩ => ⟨S1x4x128, .f32⟩
  | .hbm, ⟨12, _⟩ => ⟨S4x128, .f32⟩
  | .hbm, ⟨13, _⟩ => ⟨S128x4, .f32⟩
  | .hbm, ⟨14, _⟩ => ⟨S1x16, .f32⟩
  | .hbm, ⟨15, _⟩ => ⟨S16, .f32⟩
  | .hbm, ⟨16, _⟩ => ⟨S1x512, .f32⟩
  | .hbm, ⟨17, _⟩ => ⟨S512, .f32⟩
  | .hbm, ⟨18, _⟩ => ⟨S1x512, .f32⟩
  | .hbm, ⟨19, _⟩ => ⟨S32768x2048, .f32⟩
  | .hbm, ⟨20, _⟩ => ⟨S4x8192x4352, .bf16⟩
  | .hbm, ⟨21, _⟩ => ⟨S4x8192x128, .f32⟩
  | .hbm, ⟨22, _⟩ => ⟨S4x8192x2048, .f32⟩
  | .hbm, ⟨23, _⟩ => ⟨S4x8192x2048, .f32⟩
  | .local _ .vmem, ⟨0, _⟩ => ⟨S4x128x4352, .bf16⟩
  | .local _ .vmem, ⟨1, _⟩ => ⟨S4x128x4352, .bf16⟩
  | .local _ .vmem, ⟨2, _⟩ => ⟨S4x128x128, .f32⟩
  | .local _ .vmem, ⟨3, _⟩ => ⟨S4x128x128, .f32⟩
  | .local _ .vmem, ⟨4, _⟩ => ⟨S4x128x2048, .f32⟩
  | .local _ .vmem, ⟨5, _⟩ => ⟨S4x128x2048, .f32⟩
  | .local _ .vmem, ⟨6, _⟩ => ⟨S1x2048x2048, .bf16⟩
  | .local _ .vmem, ⟨7, _⟩ => ⟨S4x128x128, .f32⟩
  | .local _ .vmem, ⟨8, _⟩ => ⟨S128x4, .f32⟩
  | .local _ .vmem, ⟨9, _⟩ => ⟨S1x512, .f32⟩
  | .local _ .vmem, ⟨10, _⟩ => ⟨S4x128x2048, .f32⟩
  | .local _ .vmem, ⟨11, _⟩ => ⟨S4x128x2048, .f32⟩
  | .local _ .vmem, ⟨12, _⟩ => ⟨S4x128x128, .bf16⟩
  | .local _ .vmem, ⟨13, _⟩ => ⟨S4x128x128, .f32⟩
  | .local _ .vmem, ⟨14, _⟩ => ⟨S4x2x512x128, .bf16⟩
  | .local _ .vmem, ⟨15, _⟩ => ⟨S4x2x512x256, .bf16⟩
  | .local _ .vmem, ⟨16, _⟩ => ⟨S4x4x128x256, .f32⟩
  | .local _ .vmem, ⟨17, _⟩ => ⟨S4x8x128, .f32⟩
  | .local _ .vmem, ⟨18, _⟩ => ⟨S2x512x512, .f32⟩
  | .local _ .vmem, ⟨19, _⟩ => ⟨S2x512x256, .f32⟩
  | .local _ .vmem, ⟨20, _⟩ => ⟨S2x512x512, .bf16⟩
  | .local _ .vmem, ⟨21, _⟩ => ⟨S4x128x2048, .bf16⟩
  | .local _ .smem, ⟨0, _⟩ => ⟨S16, .f32⟩
  | _, _ => ⟨S32768x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![1, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x128x4352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .smem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S4x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Proof.Ffn.Math.lean ====
/- The mathematics of the feed-forward part over the extended reals, free of any program: the normalised row, the gated
   activation, and the residual sum taken over all 5632 hidden units or chunk by chunk. -/
module

public import Idealize.ShloMosaic.Lib.Pointwise

@[expose] public section

set_option maxRecDepth 16384

noncomputable section

namespace Cert.FfnMath

open Idealize.ShloMosaic

/-- Entry `k` of the root-mean-square normalised row `x` with gain `g`, the row of length 2048. -/
def rms (x g : Fin 2048 → EReal) (k : Fin 2048) : EReal :=
  x k * Ideal.rsqrt (Ideal.div (∑ i : Fin 2048, x i * x i) (Ideal.ofBits .f32 0x45000000#32) + Ideal.ofBits .f32 0x358637BD#32) * g k

/-- One hidden unit: `silu (hn · wg) * (hn · wu)`. -/
def act (hn wg wu : Fin 2048 → EReal) : EReal :=
  (∑ k : Fin 2048, hn k * wg k) * Ideal.logistic (∑ k : Fin 2048, hn k * wg k) * ∑ k : Fin 2048, hn k * wu k

/-- The residual sum over the first `n` chunks of 512 hidden units, `u` the hidden unit's contribution. -/
def acc (h : EReal) (u : Fin 11 → EReal) (n : ℕ) : EReal :=
  h + ∑ j ∈ Finset.univ.filter (fun j : Fin 11 => j.val < n), u j

/-- One more chunk. -/
theorem acc_succ (h : EReal) (u : Fin 11 → EReal) (n : ℕ) (hn : n < 11) : acc h u n + u ⟨n, hn⟩ = acc h u (n + 1) := by
  unfold acc
  have e : (Finset.univ.filter fun j : Fin 11 => j.val < n + 1) = insert ⟨n, hn⟩ (Finset.univ.filter fun j : Fin 11 => j.val < n) := by
    ext j
    simp only [Finset.mem_filter, Finset.mem_univ, true_and, Finset.mem_insert, Fin.ext_iff]
    omega
  rw [e, Finset.sum_insert (by simp), add_assoc, add_comm (u _)]

/-- No chunk yet. -/
theorem acc_zero (h : EReal) (u : Fin 11 → EReal) : acc h u 0 = h := by
  simp [acc]

/-- All eleven chunks. -/
theorem acc_all (h : EReal) (u : Fin 11 → EReal) : acc h u 11 = h + ∑ j, u j := by
  unfold acc
  rw [Finset.filter_true_of_mem fun j _ => j.isLt]

/-- The sum over the 5632 hidden units, chunk by chunk and half by half. -/
theorem sum_chunks (f : Fin 5632 → EReal) :
    (∑ j : Fin 11, ((∑ t : Fin 256, f ⟨j.val * 512 + t.val, by omega⟩) + ∑ t : Fin 256, f ⟨j.val * 512 + 256 + t.val, by omega⟩))
      = ∑ k : Fin 5632, f k := by
  rw [Fin.sum_univ_tiles 11 512 rfl f]
  refine Finset.sum_congr rfl fun j _ => ?_
  rw [Fin.sum_univ_two_halves 256 256 rfl]
  refine congrArg₂ (· + ·) rfl (Finset.sum_congr rfl fun t _ => congrArg f (Fin.ext ?_))
  simp only []
  omega

/-- Entry `l` of the feed-forward part of one row: the row plus the gated activation of its normalised row times `wd`. -/
def ffn (h g : Fin 2048 → EReal) (wg wu : Fin 2048 → Fin 5632 → EReal) (wd : Fin 5632 → Fin 2048 → EReal) (l : Fin 2048) : EReal :=
  h l + ∑ f : Fin 5632, act (rms h g) (fun k => wg k f) (fun k => wu k f) * wd f l

/-- What chunk `j` of 512 hidden units contributes, its two halves of 256 summed one after the other. -/
def chunkOf (hn : Fin 2048 → EReal) (wg wu : Fin 2048 → Fin 5632 → EReal) (wd : Fin 5632 → Fin 2048 → EReal) (l : Fin 2048) (j : Fin 11) : EReal :=
  (∑ t : Fin 256, act hn (fun k => wg k ⟨j.val * 512 + t.val, by omega⟩) (fun k => wu k ⟨j.val * 512 + t.val, by omega⟩) * wd ⟨j.val * 512 + t.val, by omega⟩ l)
    + ∑ t : Fin 256, act hn (fun k => wg k ⟨j.val * 512 + 256 + t.val, by omega⟩) (fun k => wu k ⟨j.val * 512 + 256 + t.val, by omega⟩) * wd ⟨j.val * 512 + 256 + t.val, by omega⟩ l

/-- The eleven chunks added one after the other to the row are the whole feed-forward part. -/
theorem acc_chunks (h g : Fin 2048 → EReal) (wg wu : Fin 2048 → Fin 5632 → EReal) (wd : Fin 5632 → Fin 2048 → EReal) (l : Fin 2048) :
    acc (h l) (chunkOf (rms h g) wg wu wd l) 11 = ffn h g wg wu wd l := by
  rw [acc_all, ffn, ← sum_chunks]
  rfl

end Cert.FfnMath

end
-- ==== Proof.Ffn.Pay.lean ====
/- What the feed-forward call's stored and multiplied values are, entry by entry. -/
module

public import proofs.«01_k».proof.Proof.Gen.KernelIdeal.Skeleton
public import proofs.«01_k».proof.Proof.Ffn.Math

@[expose] public section

set_option maxRecDepth 16384

noncomputable section

namespace Cert.KernelIdeal.Ffn

open Idealize.ShloMosaic Idealize.ShloMosaic.TcCoe Idealize.SL.Sem
open Cert.KernelIdeal Cert.KernelIdeal.Gen Cert.FfnMath

/-- The stored normalised row. -/
theorem pay6_apply (x : FVec Ideal S1024x2048 .f32) (g : FVec Ideal S1x2048 .f32) (r : Fin 1024) (k : Fin 2048) :
    k0_pay6 (F := Ideal) x g (ix2 r k) = rms (fun i => x (ix2 r i)) (fun i => g (ix2 0 i)) k := by
  pointwise [k0_pay6, k0_pay5, rms]

/-- The gated activation of the first half of the chunk. -/
theorem pay8_apply (x : FVec Ideal S1024x2048 .f32) (g : FVec Ideal S1x2048 .f32) (wg wu : FVec Ideal S1x2048x256 .bf16) (r : Fin 1024) (f : Fin 256) :
    k0_pay8 (F := Ideal) x g wg wu (ix2 r f) = act (rms (fun i => x (ix2 r i)) (fun i => g (ix2 0 i))) (fun k => wg (ix3 0 k f)) (fun k => wu (ix3 0 k f)) := by
  pointwise [k0_pay8, pay6_apply, act]

/-- The gate product of the second half of the chunk. -/
theorem pay9_apply (x : FVec Ideal S1024x2048 .f32) (g : FVec Ideal S1x2048 .f32) (wg : FVec Ideal S1x2048x256 .bf16) (r : Fin 1024) (f : Fin 256) :
    k0_pay9 (F := Ideal) x g wg (ix2 r f) = ∑ k : Fin 2048, rms (fun i => x (ix2 r i)) (fun i => g (ix2 0 i)) k * wg (ix3 0 k f) := by
  pointwise [k0_pay9, pay6_apply]

end Cert.KernelIdeal.Ffn

end
-- ==== Proof.Ffn.Step.lean ====
/- What one point of the grid leaves in the output block and in the scratch. -/
module

public import proofs.«01_k».proof.Proof.Gen.KernelIdeal.Frame
public import proofs.«01_k».proof.Proof.Ffn.Pay
public import Idealize.ShloMosaic.Lib.Pipeline.ValueKit
public import Idealize.ShloMosaic.Lib.Pipeline.ReadBack

@[expose] public section

set_option maxRecDepth 16384

noncomputable section

namespace Cert.KernelIdeal.Ffn

open Idealize.ShloMosaic Idealize.ShloMosaic.TcCoe Idealize.SL.Sem
open Idealize.ShloMosaic.Pipeline (Dat)
open Cert.KernelIdeal Cert.KernelIdeal.Gen Cert.FfnMath

variable (m : (ℓ : Loc nD τ sig) → Buf (Elt Ideal) ℓ)

/-- What one point's chunk of 512 hidden units adds to entry `l` of a row whose normalised row is `hn`: the two halves of
    256 the body multiplies one after the other. -/
def chunk (hn : Fin 2048 → EReal) (wg wu : FVec Ideal S1x2048x512 .bf16) (wd : FVec Ideal S1x512x2048 .bf16) (l : Fin 2048) : EReal :=
  (∑ t : Fin 256, act hn (fun k => wg (ix3 0 k ⟨t.val, by omega⟩)) (fun k => wu (ix3 0 k ⟨t.val, by omega⟩)) * wd (ix3 0 ⟨t.val, by omega⟩ l))
    + ∑ t : Fin 256, act hn (fun k => wg (ix3 0 k ⟨256 + t.val, by omega⟩)) (fun k => wu (ix3 0 k ⟨256 + t.val, by omega⟩)) * wd (ix3 0 ⟨256 + t.val, by omega⟩ l)

/-- A tile's first point leaves in the output block the row plus the first chunk of its normalised row. -/
theorem stA_1 (c : Dev nD) (t : Fin cfg0.N) (h0 : t.val % 11 = 0) (r : Fin 1024) (l : Fin 2048) :
    (outsAt0 m c t.val t.isLt).1 (ix2 r l) = (show FVec Ideal S1024x2048 .f32 from iblk m c 0 t) (ix2 r l)
      + chunk (rms (fun i => (show FVec Ideal S1024x2048 .f32 from iblk m c 0 t) (ix2 r i)) fun i => (show FVec Ideal S1x2048 .f32 from iblk m c 1 t) (ix2 0 i)) (iblk m c 2 t) (iblk m c 3 t) (iblk m c 4 t) l := by
  rw [outsAt0_A m c t h0 (by omega) (by omega)]
  frame_out
  generalize (show FVec Ideal S1024x2048 .f32 from iblk m c 0 t) = x0
  generalize (show FVec Ideal S1x2048 .f32 from iblk m c 1 t) = x1
  generalize (show FVec Ideal S1x2048x512 .bf16 from iblk m c 2 t) = x2
  generalize (show FVec Ideal S1x2048x512 .bf16 from iblk m c 3 t) = x3
  generalize (show FVec Ideal S1x512x2048 .bf16 from iblk m c 4 t) = x4
  unfold chunk
  rw [← add_assoc]
  pointwise [k0_pay2, k0_pay1, k0_pay10, k0_pay9, k0_pay8, pay6_apply, k0_pay5, act]

/-- A tile's first point leaves the normalised row in the scratch. -/
theorem stA_2 (c : Dev nD) (t : Fin cfg0.N) (h0 : t.val % 11 = 0) (r : Fin 1024) (l : Fin 2048) :
    (outsAt0 m c t.val t.isLt).2 (ix2 r l) = rms (fun i => (show FVec Ideal S1024x2048 .f32 from iblk m c 0 t) (ix2 r i)) (fun i => (show FVec Ideal S1x2048 .f32 from iblk m c 1 t) (ix2 0 i)) l := by
  rw [outsAt0_A m c t h0 (by omega) (by omega)]
  frame_out
  generalize (show FVec Ideal S1024x2048 .f32 from iblk m c 0 t) = x0
  generalize (show FVec Ideal S1x2048 .f32 from iblk m c 1 t) = x1
  pointwise [k0_pay7, pay6_apply]

/-- A later point adds its chunk to the output block. -/
theorem stB_1 (c : Dev nD) (t : Fin cfg0.N) (h0 : 1 ≤ t.val % 11 ∧ t.val % 11 ≤ 9) (r : Fin 1024) (l : Fin 2048) :
    (outsAt0 m c t.val t.isLt).1 (ix2 r l) = (show EReal from (outsAt0 m c (t.val - 1) (Nat.lt_of_le_of_lt (Nat.sub_le _ _) t.isLt)).1 (ix2 r l))
      + chunk (fun k => (outsAt0 m c (t.val - 1) (Nat.lt_of_le_of_lt (Nat.sub_le _ _) t.isLt)).2 (ix2 r k)) (iblk m c 2 t) (iblk m c 3 t) (iblk m c 4 t) l := by
  rw [outsAt0_B m c t (by omega) h0 (by omega)]
  frame_out
  simp only [read_unread_whole]
  generalize (outsAt0 m c (t.val - 1) _).1 = y
  generalize (outsAt0 m c (t.val - 1) _).2 = hn
  generalize (show FVec Ideal S1x2048x512 .bf16 from iblk m c 2 t) = x2
  generalize (show FVec Ideal S1x2048x512 .bf16 from iblk m c 3 t) = x3
  generalize (show FVec Ideal S1x512x2048 .bf16 from iblk m c 4 t) = x4
  unfold chunk
  rw [← add_assoc]
  pointwise [k0_pay3, k0_pay11, k0_pay12, k0_pay13, act]

/-- A later point keeps the normalised row. -/
theorem stB_2 (c : Dev nD) (t : Fin cfg0.N) (h0 : 1 ≤ t.val % 11 ∧ t.val % 11 ≤ 9) :
    (outsAt0 m c t.val t.isLt).2 = (outsAt0 m c (t.val - 1) (Nat.lt_of_le_of_lt (Nat.sub_le _ _) t.isLt)).2 := by
  rw [outsAt0_B m c t (by omega) h0 (by omega)]
  rfl

/-- A tile's last point adds its chunk and normalises the row. -/
theorem stC_1 (c : Dev nD) (t : Fin cfg0.N) (h0 : t.val % 11 = 10) (r : Fin 1024) (l : Fin 2048) :
    (outsAt0 m c t.val t.isLt).1 (ix2 r l) = rms (fun l => (show EReal from (outsAt0 m c (t.val - 1) (Nat.lt_of_le_of_lt (Nat.sub_le _ _) t.isLt)).1 (ix2 r l))
      + chunk (fun k => (outsAt0 m c (t.val - 1) (Nat.lt_of_le_of_lt (Nat.sub_le _ _) t.isLt)).2 (ix2 r k)) (iblk m c 2 t) (iblk m c 3 t) (iblk m c 4 t) l)
        (fun i => (show FVec Ideal S1x2048 .f32 from iblk m c 5 t) (ix2 0 i)) l := by
  rw [outsAt0_C m c t (by omega) (by omega) h0]
  frame_out
  simp only [read_unread_whole]
  generalize (outsAt0 m c (t.val - 1) _).1 = y
  generalize (outsAt0 m c (t.val - 1) _).2 = hn
  generalize (show FVec Ideal S1x2048x512 .bf16 from iblk m c 2 t) = x2
  generalize (show FVec Ideal S1x2048x512 .bf16 from iblk m c 3 t) = x3
  generalize (show FVec Ideal S1x512x2048 .bf16 from iblk m c 4 t) = x4
  generalize (show FVec Ideal S1x2048 .f32 from iblk m c 5 t) = x5
  unfold chunk
  simp only [← add_assoc]
  pointwise [k0_pay4, k0_pay14, k0_pay15, k0_pay16, act, rms]

end Cert.KernelIdeal.Ffn

end
-- ==== Proof.Ffn.Final.lean ====
/- The result array of the feed-forward call: the blocks read in the argument arrays, the chunks collected over a tile's points, and the array they leave. -/
module

public import proofs.«01_k».proof.Proof.Ffn.Step
public import Idealize.ShloMosaic.Lib.Claim

@[expose] public section

set_option maxRecDepth 16384

noncomputable section

namespace Cert.KernelIdeal.Ffn

open Idealize.ShloMosaic Idealize.ShloMosaic.TcCoe Idealize.SL.Sem
open Idealize.ShloMosaic.Pipeline (Dat)
open Cert.KernelIdeal Cert.KernelIdeal.Gen Cert.FfnMath

variable (m : (ℓ : Loc nD τ sig) → Buf (Elt Ideal) ℓ)

/-- Every window's block index at every point. -/
theorem idx : ∀ t : Fin cfg0.N, (t.val % 11 = 0 → win0_0.index t = ![t.val / 11, 0]) ∧ win0_1.index t = ![0, 0]
    ∧ win0_2.index t = ![3, 0, t.val % 11] ∧ win0_3.index t = ![3, 0, t.val % 11] ∧ win0_4.index t = ![3, t.val % 11, 0]
    ∧ win0_5.index t = ![0, 0] ∧ win0_6.index t = ![t.val / 11, 0] ∧ t.val / 11 < 32 :=
  (by decide +kernel : ∀ t : Fin grid0.N, _)

/-- Row `i` of the hidden state. -/
def hrow (c : Dev nD) (i : ℕ) (k : Fin 2048) : EReal :=
  (m ((c : Thread nD τ).loc main_arg0) : FVec Ideal S4x8192x2048 .f32) (ix3 ⟨i / 8192 % 4, Nat.mod_lt _ (by decide)⟩ ⟨i % 8192, Nat.mod_lt _ (by decide)⟩ k)
/-- The gain of the normalisation before the feed-forward part. -/
def gain (c : Dev nD) (k : Fin 2048) : EReal := (m ((c : Thread nD τ).loc main_arg1) : FVec Ideal S4x2048 .f32) (ix2 3 k)
/-- The gate weights of the layer. -/
def wgate (c : Dev nD) (k : Fin 2048) (f : Fin 5632) : EReal := (m ((c : Thread nD τ).loc main_arg2) : FVec Ideal S4x2048x5632 .f32) (ix3 3 k f)
/-- The up weights of the layer. -/
def wup (c : Dev nD) (k : Fin 2048) (f : Fin 5632) : EReal := (m ((c : Thread nD τ).loc main_arg3) : FVec Ideal S4x2048x5632 .f32) (ix3 3 k f)
/-- The down weights of the layer. -/
def wdown (c : Dev nD) (f : Fin 5632) (l : Fin 2048) : EReal := (m ((c : Thread nD τ).loc main_arg4) : FVec Ideal S4x5632x2048 .f32) (ix3 3 f l)
/-- The gain of the final normalisation. -/
def fgain (c : Dev nD) (k : Fin 2048) : EReal := (m ((c : Thread nD τ).loc main_arg5) : FVec Ideal S2048 .f32) (ix1 k)

/-- The hidden block of a tile's first point is the tile's rows of the hidden state. -/
theorem x0_apply (c : Dev nD) (t : Fin cfg0.N) (h0 : t.val % 11 = 0) (r : Fin 1024) (k : Fin 2048) :
    (show FVec Ideal S1024x2048 .f32 from iblk m c 0 t) (ix2 r k) = hrow m c (t.val / 11 * 1024 + r.val) k := by
  have e : (show FVec Ideal S1024x2048 .f32 from iblk m c 0 t) (ix2 r k)
      = (show FVec Ideal S32768x2048 .f32 from V m c main_v3) (ix2 ⟨t.val / 11 * 1024 + r.val, by have := (idx t).2.2.2.2.2.2.2; omega⟩ k) := by
    have e0 := (idx t).1 h0
    blk_ext [iblk, e0]
  rw [e]
  entry_read
  have := (idx t).2.2.2.2.2.2.2
  pointwise [hrow]
  exact congrArg (m ((c : Thread nD τ).loc main_arg0) : FVec Ideal S4x8192x2048 .f32) (by idx_ext)

/-- The gain block is the layer's gain. -/
theorem x1_apply (c : Dev nD) (t : Fin cfg0.N) (k : Fin 2048) :
    (show FVec Ideal S1x2048 .f32 from iblk m c 1 t) (ix2 0 k) = gain m c k := by
  have e : (show FVec Ideal S1x2048 .f32 from iblk m c 1 t) (ix2 0 k)
      = (show FVec Ideal S1x2048 .f32 from V m c main_v6) (ix2 0 k) := by
    blk_ext [iblk, idx t]
  rw [e]
  entry_read
  pointwise [gain]

/-- The final gain block is the final gain. -/
theorem x5_apply (c : Dev nD) (t : Fin cfg0.N) (k : Fin 2048) :
    (show FVec Ideal S1x2048 .f32 from iblk m c 5 t) (ix2 0 k) = fgain m c k := by
  have e : (show FVec Ideal S1x2048 .f32 from iblk m c 5 t) (ix2 0 k)
      = (show FVec Ideal S1x2048 .f32 from V m c main_v7) (ix2 0 k) := by
    blk_ext [iblk, idx t]
  rw [e]
  entry_read
  pointwise [fgain]

/-- The gate block of a point is its chunk of 512 columns. -/
theorem x2_apply (c : Dev nD) (t : Fin cfg0.N) (k : Fin 2048) (f : Fin 512) :
    (show FVec Ideal S1x2048x512 .bf16 from iblk m c 2 t) (ix3 0 k f) = wgate m c k ⟨t.val % 11 * 512 + f.val, by omega⟩ := by
  have e : (show FVec Ideal S1x2048x512 .bf16 from iblk m c 2 t) (ix3 0 k f)
      = (show FVec Ideal S4x2048x5632 .bf16 from V m c main_v0) (ix3 3 k ⟨t.val % 11 * 512 + f.val, by omega⟩) := by
    blk_ext [iblk, idx t]
  rw [e]
  entry_read
  pointwise [wgate]

/-- The up block of a point is its chunk of 512 columns. -/
theorem x3_apply (c : Dev nD) (t : Fin cfg0.N) (k : Fin 2048) (f : Fin 512) :
    (show FVec Ideal S1x2048x512 .bf16 from iblk m c 3 t) (ix3 0 k f) = wup m c k ⟨t.val % 11 * 512 + f.val, by omega⟩ := by
  have e : (show FVec Ideal S1x2048x512 .bf16 from iblk m c 3 t) (ix3 0 k f)
      = (show FVec Ideal S4x2048x5632 .bf16 from V m c main_v1) (ix3 3 k ⟨t.val % 11 * 512 + f.val, by omega⟩) := by
    blk_ext [iblk, idx t]
  rw [e]
  entry_read
  pointwise [wup]

/-- The down block of a point is its chunk of 512 rows. -/
theorem x4_apply (c : Dev nD) (t : Fin cfg0.N) (f : Fin 512) (l : Fin 2048) :
    (show FVec Ideal S1x512x2048 .bf16 from iblk m c 4 t) (ix3 0 f l) = wdown m c ⟨t.val % 11 * 512 + f.val, by omega⟩ l := by
  have e : (show FVec Ideal S1x512x2048 .bf16 from iblk m c 4 t) (ix3 0 f l)
      = (show FVec Ideal S4x5632x2048 .bf16 from V m c main_v2) (ix3 3 ⟨t.val % 11 * 512 + f.val, by omega⟩ l) := by
    blk_ext [iblk, idx t]
  rw [e]
  entry_read
  pointwise [wdown]

/-- A point's chunk, read in the weight arrays. -/
theorem chunk_eq (c : Dev nD) (t : Fin cfg0.N) (hn : Fin 2048 → EReal) (l : Fin 2048) (j : Fin 11) (hj : j.val = t.val % 11) :
    chunk hn (show FVec Ideal S1x2048x512 .bf16 from iblk m c 2 t) (show FVec Ideal S1x2048x512 .bf16 from iblk m c 3 t) (show FVec Ideal S1x512x2048 .bf16 from iblk m c 4 t) l = chunkOf hn (wgate m c) (wup m c) (wdown m c) l j := by
  have e2 := x2_apply m c t
  have e3 := x3_apply m c t
  have e4 := x4_apply m c t
  generalize (show FVec Ideal S1x2048x512 .bf16 from iblk m c 2 t) = x2 at e2 ⊢
  generalize (show FVec Ideal S1x2048x512 .bf16 from iblk m c 3 t) = x3 at e3 ⊢
  generalize (show FVec Ideal S1x512x2048 .bf16 from iblk m c 4 t) = x4 at e4 ⊢
  obtain ⟨j, hj'⟩ := j
  obtain rfl : j = t.val % 11 := hj
  unfold chunk chunkOf
  simp only [e2, e3, e4, add_assoc]

/-- What the first `n` chunks leave at entry `l` of row `i`. -/
def part (c : Dev nD) (i : ℕ) (n : ℕ) (l : Fin 2048) : EReal :=
  acc (hrow m c i l) (chunkOf (rms (hrow m c i) (gain m c)) (wgate m c) (wup m c) (wdown m c) l) n

/-- After a tile's first point the output block holds the row plus the first chunk and the scratch the normalised row. -/
theorem first (c : Dev nD) (t : Fin cfg0.N) (h0 : t.val % 11 = 0) (r : Fin 1024) :
    (∀ l : Fin 2048, (show EReal from (outsAt0 m c t.val t.isLt).1 (ix2 r l)) = part m c (t.val / 11 * 1024 + r.val) 1 l)
    ∧ ∀ l : Fin 2048, (show EReal from (outsAt0 m c t.val t.isLt).2 (ix2 r l)) = rms (hrow m c (t.val / 11 * 1024 + r.val)) (gain m c) l := by
  have e0 := x0_apply m c t h0 r
  have e1 := x1_apply m c t
  refine ⟨fun l => ?_, fun l => ?_⟩
  · refine (stA_1 m c t h0 r l).trans ?_
    rw [chunk_eq m c t _ l ⟨0, by decide⟩ h0.symm]
    simp only [e0, e1]
    unfold part
    rw [← acc_succ _ _ 0 (by decide), acc_zero]
  · refine (stA_2 m c t h0 r l).trans ?_
    simp only [e0, e1]

/-- After the point of chunk `j < 10` of its row tile the output block holds the row plus the chunks so far, and the
    scratch the normalised row. -/
theorem inv (c : Dev nD) : ∀ (n : ℕ) (hn : n < cfg0.N), n % 11 < 10 → ∀ (r : Fin 1024),
    (∀ l : Fin 2048, (show EReal from (outsAt0 m c n hn).1 (ix2 r l)) = part m c (n / 11 * 1024 + r.val) (n % 11 + 1) l)
    ∧ ∀ l : Fin 2048, (show EReal from (outsAt0 m c n hn).2 (ix2 r l)) = rms (hrow m c (n / 11 * 1024 + r.val)) (gain m c) l := by
  intro n
  induction n with
  | zero => exact fun hn _ r => first m c ⟨0, hn⟩ rfl r
  | succ n ih =>
    intro hn h r
    by_cases h0 : (n + 1) % 11 = 0
    · rw [h0]
      exact first m c ⟨n + 1, hn⟩ h0 r
    · have hm : (n + 1) % 11 = n % 11 + 1 := by omega
      have hd : (n + 1) / 11 = n / 11 := by omega
      obtain ⟨i1, i2⟩ := ih (Nat.lt_of_succ_lt hn) (by omega) r
      have hB : 1 ≤ (⟨n + 1, hn⟩ : Fin cfg0.N).val % 11 ∧ (⟨n + 1, hn⟩ : Fin cfg0.N).val % 11 ≤ 9 := by
        show 1 ≤ (n + 1) % 11 ∧ (n + 1) % 11 ≤ 9
        omega
      rw [hd, hm]
      refine ⟨fun l => ?_, fun l => ?_⟩
      · refine (stB_1 m c ⟨n + 1, hn⟩ hB r l).trans ?_
        rw [chunk_eq m c ⟨n + 1, hn⟩ _ l ⟨n % 11 + 1, by omega⟩ hm.symm]
        refine (congrArg₂ (· + ·) (i1 l) (congrArg (fun z => chunkOf z _ _ _ l _) (funext i2))).trans ?_
        exact acc_succ _ _ (n % 11 + 1) (by omega)
      · exact (congrFun (stB_2 m c ⟨n + 1, hn⟩ hB) (ix2 r l)).trans (i2 l)

/-- After the last chunk's point the block holds the normalised feed-forward rows. -/
theorem last (c : Dev nD) (t : Fin cfg0.N) (h0 : t.val % 11 = 10) (r : Fin 1024) (l : Fin 2048) :
    (show EReal from (outsAt0 m c t.val t.isLt).1 (ix2 r l))
      = rms (ffn (hrow m c (t.val / 11 * 1024 + r.val)) (gain m c) (wgate m c) (wup m c) (wdown m c)) (fgain m c) l := by
  obtain ⟨i1, i2⟩ := inv m c (t.val - 1) (Nat.lt_of_le_of_lt (Nat.sub_le _ _) t.isLt) (by omega) r
  have hm : (t.val - 1) % 11 + 1 = 10 := by omega
  have hd : (t.val - 1) / 11 = t.val / 11 := by omega
  rw [hd, hm] at i1
  rw [hd] at i2
  refine (stC_1 m c t h0 r l).trans ?_
  refine congrArg₂ (fun a b => rms a b l) (funext fun l => ?_) (funext fun k => x5_apply m c t k)
  rw [chunk_eq m c t _ l ⟨10, by decide⟩ h0.symm]
  refine (congrArg₂ (· + ·) (i1 l) (congrArg (fun z => chunkOf z _ _ _ l _) (funext i2))).trans ?_
  rw [← acc_chunks]
  exact acc_succ _ _ 10 (by decide)

/-- The result array: every row the normalised feed-forward part of the same row of the hidden state. -/
def OUT (c : Dev nD) : FVec Ideal S32768x2048 .f32 := fun i =>
  rms (ffn (hrow m c (i 0).val) (gain m c) (wgate m c) (wup m c) (wdown m c)) (fgain m c) (i 1)

/-- The kernel's result array after the last point. -/
theorem final (c : Dev nD) : (dats m 0 c).arrAt 6 cfg0.N = OUT m c := by
  refine (dats m 0 c).arrAt_eq_of_covers 6 _ (by decide +kernel) fun t hf y => ?_
  blk_simp
  rw [after0_6]
  have hm : t.val % 11 = 10 := (flush0_6 t).mp hf
  obtain ⟨-, -, -, -, -, -, e6, hlt⟩ := idx t
  idx_vars y
  refine (last m c t hm y0 y1).trans ?_
  have hv : ((cfg0.win 6).blk t).view.emb (ix2 y0 y1) = (ix2 ⟨t.val / 11 * 1024 + y0.val, by omega⟩ y1 : S32768x2048.Idx) := by
    blk_ext [e6]
  rw [hv]
  rfl

end Cert.KernelIdeal.Ffn

end
-- ==== Proof.Ffn.Ref.lean ====
/- The reference's result, entry by entry, as the same function of the arguments. -/
module

public import proofs.«01_k».proof.Proof.Gen.ReferenceIdeal.Read
public import proofs.«01_k».proof.Proof.Ffn.Math

@[expose] public section

set_option maxRecDepth 16384

noncomputable section

namespace Cert.ReferenceIdeal.Ffn

open Idealize.ShloMosaic Idealize.ShloMosaic.TcCoe Idealize.SL.Sem
open Cert.ReferenceIdeal Cert.ReferenceIdeal.Gen Cert.FfnMath

variable (m : (ℓ : Loc nD τ sig) → Buf (Elt Ideal) ℓ)

variable (A0 : FVec Ideal S4x8192x2048 .f32) (A1 : FVec Ideal S4x2048 .f32) (A2 A3 : FVec Ideal S4x2048x5632 .f32)
  (A4 : FVec Ideal S4x5632x2048 .f32) (A5 : FVec Ideal S2048 .f32)

/-- Row `i` of the hidden state. -/
def hrow (i : Fin 32768) (k : Fin 2048) : EReal := A0 (ix3 ⟨i.val / 8192, by omega⟩ ⟨i.val % 8192, by omega⟩ k)

/-- The hidden state as a matrix of rows. -/
theorem v0_apply (i : Fin 32768) (k : Fin 2048) : Read.val_main_v0 (F := Ideal) A0 (ix2 i k) = hrow A0 i k := by
  pointwise [Read.val_main_v0, hrow]

/-- The normalised row. -/
theorem v15_apply (i : Fin 32768) (k : Fin 2048) :
    Read.val_main_v15 (F := Ideal) A0 A1 (ix2 i k) = rms (hrow A0 i) (fun k => A1 (ix2 3 k)) k := by
  pointwise [Read.val_main_v15, Read.val_main_v14, Read.val_main_v13, Read.val_main_v12, Read.val_main_v11, Read.val_main_v10,
    Read.val_main_v9, Read.val_main_v8, Read.val_main_v7, Read.val_main_v6, Read.val_main_v5, Read.val_main_v4, Read.val_main_v3,
    Read.val_main_v2, Read.val_main_v1, Read.val_main_cst, Read.val_main_cst_0, Read.val_main_cst_1, v0_apply, rms]

/-- The gated activation of one hidden unit. -/
theorem v23_apply (i : Fin 32768) (f : Fin 5632) :
    Read.val_main_v23 (F := Ideal) A0 A1 A2 A3 (ix2 i f)
      = act (rms (hrow A0 i) (fun k => A1 (ix2 3 k))) (fun k => A2 (ix3 3 k f)) (fun k => A3 (ix3 3 k f)) := by
  pointwise [Read.val_main_v23, Read.val_main_v22, Read.val_main_v21, Read.val_main_v20, Read.val_main_v19, Read.val_main_v18, Read.val_main_v17, Read.val_main_v16,
    Read.val_main_call0_v5, Read.val_main_call0_v4, Read.val_main_call0_v3, Read.val_main_call0_v2, Read.val_main_call0_v1, Read.val_main_call0_v0, Read.val_main_call0_cst, Read.val_main_call0_cst_0, v15_apply, act, Ideal.logistic]

/-- The feed-forward part before the final normalisation. -/
theorem v27_apply (i : Fin 32768) (l : Fin 2048) :
    Read.val_main_v27 (F := Ideal) A0 A1 A2 A3 A4 (ix2 i l)
      = ffn (hrow A0 i) (fun k => A1 (ix2 3 k)) (fun k f => A2 (ix3 3 k f)) (fun k f => A3 (ix3 3 k f)) (fun f l => A4 (ix3 3 f l)) l := by
  pointwise [Read.val_main_v27, Read.val_main_v26, Read.val_main_v25, Read.val_main_v24, v23_apply, v0_apply, ffn]

/-- The reference's result at row `i`, column `l`. -/
theorem v40_apply (i : Fin 32768) (l : Fin 2048) :
    Read.val_main_v40 (F := Ideal) A0 A1 A2 A3 A4 A5 (ix2 i l)
      = rms (ffn (hrow A0 i) (fun k => A1 (ix2 3 k)) (fun k f => A2 (ix3 3 k f)) (fun k f => A3 (ix3 3 k f)) (fun f l => A4 (ix3 3 f l)))
          (fun k => A5 (ix1 k)) l := by
  pointwise [Read.val_main_v40, Read.val_main_v39, Read.val_main_v38, Read.val_main_v37, Read.val_main_v36, Read.val_main_v35, Read.val_main_v34, Read.val_main_v33, Read.val_main_v32, Read.val_main_v31, Read.val_main_v30, Read.val_main_v29, Read.val_main_v28, Read.val_main_cst_2, Read.val_main_cst_3, Read.val_main_cst_4, v27_apply, rms]

end Cert.ReferenceIdeal.Ffn

end
-- ==== Proof.Ffn.Claim.lean ====
/- The value claim: the call's result array is the reference's. -/
module

public import proofs.«01_k».proof.Defs
public import proofs.«01_k».proof.Proof.Ffn.Final
public import proofs.«01_k».proof.Proof.Ffn.Ref

@[expose] public section

set_option maxRecDepth 16384

noncomputable section

namespace Cert.Proof

open Idealize.ShloMosaic Idealize.ShloMosaic.TcCoe Idealize.SL.Sem

/-- On memories that agree on the arguments the kernel's result array is the reference's, entry by entry. -/
theorem algebraic_KernelIdeal_ReferenceIdeal : algebraic_KernelIdeal_ReferenceIdeal := by
  pair_intro
  · run_from Cert.KernelIdeal.Gen.run_main m g
  · run_from Cert.ReferenceIdeal.Value.run m' g'
    rw [Cert.KernelIdeal.Ffn.final m c, Cert.ReferenceIdeal.Read.val_main_v40_eq]
    simp only [hagree c]
    funext i
    obtain ⟨i, l, rfl⟩ : ∃ (p : Fin 32768) (q : Fin 2048), i = ix2 p q := ⟨i 0, i 1, by funext d; fin_cases d <;> rfl⟩
    refine (Cert.ReferenceIdeal.Ffn.v40_apply _ _ _ _ _ _ i l).trans ?_
    have e : (fun k => Cert.KernelIdeal.Ffn.hrow m c i.val k) = Cert.ReferenceIdeal.Ffn.hrow (m ((c.tc : Thread Cert.KernelIdeal.nD Cert.KernelIdeal.τ).loc Cert.KernelIdeal.main_arg0)) i := by
      funext k
      exact congrArg (m ((c : Thread Cert.KernelIdeal.nD Cert.KernelIdeal.τ).loc Cert.KernelIdeal.main_arg0) : FVec Ideal Cert.KernelIdeal.S4x8192x2048 .f32) (by idx_ext)
    unfold Cert.KernelIdeal.Ffn.OUT
    simp only [← e]
    rfl

end Cert.Proof

end
-- ==== Proof.Ffn2.Pay.lean ====
/- What the feed-forward call's stored and multiplied values are, entry by entry. -/
module

public import proofs.«01_k».proof.Proof.Gen.Kernel2Ideal.Skeleton
public import proofs.«01_k».proof.Proof.Ffn.Math

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen Cert.FfnMath

/-- The stored normalised row. -/
theorem pay5_apply (x : FVec Ideal S1024x2048 .f32) (g : FVec Ideal S1x2048 .f32) (r : Fin 1024) (k : Fin 2048) :
    k0_pay5 (F := Ideal) x g (ix2 r k) = rms (fun i => x (ix2 r i)) (fun i => g (ix2 0 i)) k := by
  pointwise [k0_pay5, k0_pay4, rms]

/-- The gated activation of the first half of the chunk. -/
theorem pay7_apply (x : FVec Ideal S1024x2048 .f32) (g : FVec Ideal S1x2048 .f32) (wg wu : FVec Ideal S1x2048x256 .bf16) (r : Fin 1024) (f : Fin 256) :
    k0_pay7 (F := Ideal) x g wg wu (ix2 r f) = act (rms (fun i => x (ix2 r i)) (fun i => g (ix2 0 i))) (fun k => wg (ix3 0 k f)) (fun k => wu (ix3 0 k f)) := by
  pointwise [k0_pay7, pay5_apply, act]

/-- The gate product of the second half of the chunk. -/
theorem pay8_apply (x : FVec Ideal S1024x2048 .f32) (g : FVec Ideal S1x2048 .f32) (wg : FVec Ideal S1x2048x256 .bf16) (r : Fin 1024) (f : Fin 256) :
    k0_pay8 (F := Ideal) x g wg (ix2 r f) = ∑ k : Fin 2048, rms (fun i => x (ix2 r i)) (fun i => g (ix2 0 i)) k * wg (ix3 0 k f) := by
  pointwise [k0_pay8, pay5_apply]

end Cert.Kernel2Ideal.Ffn

end
-- ==== Proof.Ffn2.Step.lean ====
/- What one point of the grid leaves in the output block and in the scratch. -/
module

public import proofs.«01_k».proof.Proof.Gen.Kernel2Ideal.Frame
public import proofs.«01_k».proof.Proof.Ffn2.Pay
public import Idealize.ShloMosaic.Lib.Pipeline.ValueKit
public import Idealize.ShloMosaic.Lib.Pipeline.ReadBack

@[expose] public section

set_option maxRecDepth 16384

noncomputable section

namespace Cert.Kernel2Ideal.Ffn

open Idealize.ShloMosaic Idealize.ShloMosaic.TcCoe Idealize.SL.Sem
open Idealize.ShloMosaic.Pipeline (Dat)
open Cert.Kernel2Ideal Cert.Kernel2Ideal.Gen Cert.FfnMath

variable (m : (ℓ : Loc nD τ sig) → Buf (Elt Ideal) ℓ)

/-- What one point's chunk of 512 hidden units adds to entry `l` of a row whose normalised row is `hn`: the two halves of
    256 the body multiplies one after the other. -/
def chunk (hn : Fin 2048 → EReal) (wg wu : FVec Ideal S1x2048x512 .bf16) (wd : FVec Ideal S1x512x2048 .bf16) (l : Fin 2048) : EReal :=
  (∑ t : Fin 256, act hn (fun k => wg (ix3 0 k ⟨t.val, by omega⟩)) (fun k => wu (ix3 0 k ⟨t.val, by omega⟩)) * wd (ix3 0 ⟨t.val, by omega⟩ l))
    + ∑ t : Fin 256, act hn (fun k => wg (ix3 0 k ⟨256 + t.val, by omega⟩)) (fun k => wu (ix3 0 k ⟨256 + t.val, by omega⟩)) * wd (ix3 0 ⟨256 + t.val, by omega⟩ l)

/-- A tile's first point leaves in the output block the row plus the first chunk of its normalised row. -/
theorem stA_1 (c : Dev nD) (t : Fin cfg0.N) (h0 : t.val % 11 = 0) (r : Fin 1024) (l : Fin 2048) :
    (outsAt0 m c t.val t.isLt).1 (ix2 r l) = (show FVec Ideal S1024x2048 .f32 from iblk m c 0 t) (ix2 r l)
      + chunk (rms (fun i => (show FVec Ideal S1024x2048 .f32 from iblk m c 0 t) (ix2 r i)) fun i => (show FVec Ideal S1x2048 .f32 from iblk m c 1 t) (ix2 0 i)) (iblk m c 2 t) (iblk m c 3 t) (iblk m c 4 t) l := by
  rw [outsAt0_A m c t h0 (by omega)]
  frame_out
  generalize (show FVec Ideal S1024x2048 .f32 from iblk m c 0 t) = x0
  generalize (show FVec Ideal S1x2048 .f32 from iblk m c 1 t) = x1
  generalize (show FVec Ideal S1x2048x512 .bf16 from iblk m c 2 t) = x2
  generalize (show FVec Ideal S1x2048x512 .bf16 from iblk m c 3 t) = x3
  generalize (show FVec Ideal S1x512x2048 .bf16 from iblk m c 4 t) = x4
  unfold chunk
  rw [← add_assoc]
  pointwise [k0_pay2, k0_pay1, k0_pay9, k0_pay8, k0_pay7, pay5_apply, k0_pay4, act]

/-- A tile's first point leaves the normalised row in the scratch. -/
theorem stA_2 (c : Dev nD) (t : Fin cfg0.N) (h0 : t.val % 11 = 0) (r : Fin 1024) (l : Fin 2048) :
    (outsAt0 m c t.val t.isLt).2 (ix2 r l) = rms (fun i => (show FVec Ideal S1024x2048 .f32 from iblk m c 0 t) (ix2 r i)) (fun i => (show FVec Ideal S1x2048 .f32 from iblk m c 1 t) (ix2 0 i)) l := by
  rw [outsAt0_A m c t h0 (by omega)]
  frame_out
  generalize (show FVec Ideal S1024x2048 .f32 from iblk m c 0 t) = x0
  generalize (show FVec Ideal S1x2048 .f32 from iblk m c 1 t) = x1
  pointwise [k0_pay6, pay5_apply]

/-- A later point adds its chunk to the output block. -/
theorem stB_1 (c : Dev nD) (t : Fin cfg0.N) (h0 : 1 ≤ t.val % 11) (r : Fin 1024) (l : Fin 2048) :
    (outsAt0 m c t.val t.isLt).1 (ix2 r l) = (show EReal from (outsAt0 m c (t.val - 1) (Nat.lt_of_le_of_lt (Nat.sub_le _ _) t.isLt)).1 (ix2 r l))
      + chunk (fun k => (outsAt0 m c (t.val - 1) (Nat.lt_of_le_of_lt (Nat.sub_le _ _) t.isLt)).2 (ix2 r k)) (iblk m c 2 t) (iblk m c 3 t) (iblk m c 4 t) l := by
  rw [outsAt0_B m c t (by omega) h0]
  frame_out
  simp only [read_unread_whole]
  generalize (outsAt0 m c (t.val - 1) _).1 = y
  generalize (outsAt0 m c (t.val - 1) _).2 = hn
  generalize (show FVec Ideal S1x2048x512 .bf16 from iblk m c 2 t) = x2
  generalize (show FVec Ideal S1x2048x512 .bf16 from iblk m c 3 t) = x3
  generalize (show FVec Ideal S1x512x2048 .bf16 from iblk m c 4 t) = x4
  unfold chunk
  rw [← add_assoc]
  pointwise [k0_pay3, k0_pay10, k0_pay11, k0_pay12, act]

/-- A later point keeps the normalised row. -/
theorem stB_2 (c : Dev nD) (t : Fin cfg0.N) (h0 : 1 ≤ t.val % 11) :
    (outsAt0 m c t.val t.isLt).2 = (outsAt0 m c (t.val - 1) (Nat.lt_of_le_of_lt (Nat.sub_le _ _) t.isLt)).2 := by
  rw [outsAt0_B m c t (by omega) h0]
  rfl

end Cert.Kernel2Ideal.Ffn

end
-- ==== Proof.Ffn2.Final.lean ====
/- The result array of the feed-forward call: the blocks read in the argument arrays, the chunks collected over a tile's points, and the array they leave. -/
module

public import proofs.«01_k».proof.Proof.Ffn2.Step
public import Idealize.ShloMosaic.Lib.Claim

@[expose] public section

set_option maxRecDepth 16384

noncomputable section

namespace Cert.Kernel2Ideal.Ffn

open Idealize.ShloMosaic Idealize.ShloMosaic.TcCoe Idealize.SL.Sem
open Idealize.ShloMosaic.Pipeline (Dat)
open Cert.Kernel2Ideal Cert.Kernel2Ideal.Gen Cert.FfnMath

variable (m : (ℓ : Loc nD τ sig) → Buf (Elt Ideal) ℓ)

/-- Every window's block index at every point. -/
theorem idx : ∀ t : Fin cfg0.N, (t.val % 11 = 0 → win0_0.index t = ![t.val / 11, 0]) ∧ win0_1.index t = ![0, 0]
    ∧ win0_2.index t = ![0, 0, t.val % 11] ∧ win0_3.index t = ![0, 0, t.val % 11] ∧ win0_4.index t = ![0, t.val % 11, 0]
    ∧ win0_5.index t = ![0, 0] ∧ win0_6.index t = ![t.val / 11, 0] ∧ t.val / 11 < 32 :=
  (by decide +kernel : ∀ t : Fin grid0.N, _)

/-- Row `i` of the hidden state. -/
def hrow (c : Dev nD) (i : ℕ) (k : Fin 2048) : EReal :=
  (m ((c : Thread nD τ).loc main_arg0) : FVec Ideal S4x8192x2048 .f32) (ix3 ⟨i / 8192 % 4, Nat.mod_lt _ (by decide)⟩ ⟨i % 8192, Nat.mod_lt _ (by decide)⟩ k)
/-- The gain of the normalisation before the feed-forward part. -/
def gain (c : Dev nD) (k : Fin 2048) : EReal := (m ((c : Thread nD τ).loc main_arg1) : FVec Ideal S4x2048 .f32) (ix2 0 k)
/-- The gate weights of the layer. -/
def wgate (c : Dev nD) (k : Fin 2048) (f : Fin 5632) : EReal := (m ((c : Thread nD τ).loc main_arg2) : FVec Ideal S4x2048x5632 .f32) (ix3 0 k f)
/-- The up weights of the layer. -/
def wup (c : Dev nD) (k : Fin 2048) (f : Fin 5632) : EReal := (m ((c : Thread nD τ).loc main_arg3) : FVec Ideal S4x2048x5632 .f32) (ix3 0 k f)
/-- The down weights of the layer. -/
def wdown (c : Dev nD) (f : Fin 5632) (l : Fin 2048) : EReal := (m ((c : Thread nD τ).loc main_arg4) : FVec Ideal S4x5632x2048 .f32) (ix3 0 f l)

/-- The hidden block of a tile's first point is the tile's rows of the hidden state. -/
theorem x0_apply (c : Dev nD) (t : Fin cfg0.N) (h0 : t.val % 11 = 0) (r : Fin 1024) (k : Fin 2048) :
    (show FVec Ideal S1024x2048 .f32 from iblk m c 0 t) (ix2 r k) = hrow m c (t.val / 11 * 1024 + r.val) k := by
  have e : (show FVec Ideal S1024x2048 .f32 from iblk m c 0 t) (ix2 r k)
      = (show FVec Ideal S32768x2048 .f32 from V m c main_v3) (ix2 ⟨t.val / 11 * 1024 + r.val, by have := (idx t).2.2.2.2.2.2.2; omega⟩ k) := by
    have e0 := (idx t).1 h0
    blk_ext [iblk, e0]
  rw [e]
  entry_read
  have := (idx t).2.2.2.2.2.2.2
  pointwise [hrow]
  exact congrArg (m ((c : Thread nD τ).loc main_arg0) : FVec Ideal S4x8192x2048 .f32) (by idx_ext)

/-- The gain block is the layer's gain. -/
theorem x1_apply (c : Dev nD) (t : Fin cfg0.N) (k : Fin 2048) :
    (show FVec Ideal S1x2048 .f32 from iblk m c 1 t) (ix2 0 k) = gain m c k := by
  have e : (show FVec Ideal S1x2048 .f32 from iblk m c 1 t) (ix2 0 k)
      = (show FVec Ideal S1x2048 .f32 from V m c main_v6) (ix2 0 k) := by
    blk_ext [iblk, idx t]
  rw [e]
  entry_read
  pointwise [gain]

/-- The gate block of a point is its chunk of 512 columns. -/
theorem x2_apply (c : Dev nD) (t : Fin cfg0.N) (k : Fin 2048) (f : Fin 512) :
    (show FVec Ideal S1x2048x512 .bf16 from iblk m c 2 t) (ix3 0 k f) = wgate m c k ⟨t.val % 11 * 512 + f.val, by omega⟩ := by
  have e : (show FVec Ideal S1x2048x512 .bf16 from iblk m c 2 t) (ix3 0 k f)
      = (show FVec Ideal S4x2048x5632 .bf16 from V m c main_v0) (ix3 0 k ⟨t.val % 11 * 512 + f.val, by omega⟩) := by
    blk_ext [iblk, idx t]
  rw [e]
  entry_read
  pointwise [wgate]

/-- The up block of a point is its chunk of 512 columns. -/
theorem x3_apply (c : Dev nD) (t : Fin cfg0.N) (k : Fin 2048) (f : Fin 512) :
    (show FVec Ideal S1x2048x512 .bf16 from iblk m c 3 t) (ix3 0 k f) = wup m c k ⟨t.val % 11 * 512 + f.val, by omega⟩ := by
  have e : (show FVec Ideal S1x2048x512 .bf16 from iblk m c 3 t) (ix3 0 k f)
      = (show FVec Ideal S4x2048x5632 .bf16 from V m c main_v1) (ix3 0 k ⟨t.val % 11 * 512 + f.val, by omega⟩) := by
    blk_ext [iblk, idx t]
  rw [e]
  entry_read
  pointwise [wup]

/-- The down block of a point is its chunk of 512 rows. -/
theorem x4_apply (c : Dev nD) (t : Fin cfg0.N) (f : Fin 512) (l : Fin 2048) :
    (show FVec Ideal S1x512x2048 .bf16 from iblk m c 4 t) (ix3 0 f l) = wdown m c ⟨t.val % 11 * 512 + f.val, by omega⟩ l := by
  have e : (show FVec Ideal S1x512x2048 .bf16 from iblk m c 4 t) (ix3 0 f l)
      = (show FVec Ideal S4x5632x2048 .bf16 from V m c main_v2) (ix3 0 ⟨t.val % 11 * 512 + f.val, by omega⟩ l) := by
    blk_ext [iblk, idx t]
  rw [e]
  entry_read
  pointwise [wdown]

/-- A point's chunk, read in the weight arrays. -/
theorem chunk_eq (c : Dev nD) (t : Fin cfg0.N) (hn : Fin 2048 → EReal) (l : Fin 2048) (j : Fin 11) (hj : j.val = t.val % 11) :
    chunk hn (show FVec Ideal S1x2048x512 .bf16 from iblk m c 2 t) (show FVec Ideal S1x2048x512 .bf16 from iblk m c 3 t) (show FVec Ideal S1x512x2048 .bf16 from iblk m c 4 t) l = chunkOf hn (wgate m c) (wup m c) (wdown m c) l j := by
  have e2 := x2_apply m c t
  have e3 := x3_apply m c t
  have e4 := x4_apply m c t
  generalize (show FVec Ideal S1x2048x512 .bf16 from iblk m c 2 t) = x2 at e2 ⊢
  generalize (show FVec Ideal S1x2048x512 .bf16 from iblk m c 3 t) = x3 at e3 ⊢
  generalize (show FVec Ideal S1x512x2048 .bf16 from iblk m c 4 t) = x4 at e4 ⊢
  obtain ⟨j, hj'⟩ := j
  obtain rfl : j = t.val % 11 := hj
  unfold chunk chunkOf
  simp only [e2, e3, e4, add_assoc]

/-- What the first `n` chunks leave at entry `l` of row `i`. -/
def part (c : Dev nD) (i : ℕ) (n : ℕ) (l : Fin 2048) : EReal :=
  acc (hrow m c i l) (chunkOf (rms (hrow m c i) (gain m c)) (wgate m c) (wup m c) (wdown m c) l) n

/-- After a tile's first point the output block holds the row plus the first chunk and the scratch the normalised row. -/
theorem first (c : Dev nD) (t : Fin cfg0.N) (h0 : t.val % 11 = 0) (r : Fin 1024) :
    (∀ l : Fin 2048, (show EReal from (outsAt0 m c t.val t.isLt).1 (ix2 r l)) = part m c (t.val / 11 * 1024 + r.val) 1 l)
    ∧ ∀ l : Fin 2048, (show EReal from (outsAt0 m c t.val t.isLt).2 (ix2 r l)) = rms (hrow m c (t.val / 11 * 1024 + r.val)) (gain m c) l := by
  have e0 := x0_apply m c t h0 r
  have e1 := x1_apply m c t
  refine ⟨fun l => ?_, fun l => ?_⟩
  · refine (stA_1 m c t h0 r l).trans ?_
    rw [chunk_eq m c t _ l ⟨0, by decide⟩ h0.symm]
    simp only [e0, e1]
    unfold part
    rw [← acc_succ _ _ 0 (by decide), acc_zero]
  · refine (stA_2 m c t h0 r l).trans ?_
    simp only [e0, e1]

/-- After the point of chunk `j` of its row tile the output block holds the row plus the chunks so far, and the
    scratch the normalised row. -/
theorem inv (c : Dev nD) : ∀ (n : ℕ) (hn : n < cfg0.N),  ∀ (r : Fin 1024),
    (∀ l : Fin 2048, (show EReal from (outsAt0 m c n hn).1 (ix2 r l)) = part m c (n / 11 * 1024 + r.val) (n % 11 + 1) l)
    ∧ ∀ l : Fin 2048, (show EReal from (outsAt0 m c n hn).2 (ix2 r l)) = rms (hrow m c (n / 11 * 1024 + r.val)) (gain m c) l := by
  intro n
  induction n with
  | zero => exact fun hn r => first m c ⟨0, hn⟩ rfl r
  | succ n ih =>
    intro hn r
    by_cases h0 : (n + 1) % 11 = 0
    · rw [h0]
      exact first m c ⟨n + 1, hn⟩ h0 r
    · have hm : (n + 1) % 11 = n % 11 + 1 := by omega
      have hd : (n + 1) / 11 = n / 11 := by omega
      obtain ⟨i1, i2⟩ := ih (Nat.lt_of_succ_lt hn) r
      have hB : 1 ≤ (⟨n + 1, hn⟩ : Fin cfg0.N).val % 11 := by
        show 1 ≤ (n + 1) % 11
        omega
      rw [hd, hm]
      refine ⟨fun l => ?_, fun l => ?_⟩
      · refine (stB_1 m c ⟨n + 1, hn⟩ hB r l).trans ?_
        rw [chunk_eq m c ⟨n + 1, hn⟩ _ l ⟨n % 11 + 1, by omega⟩ hm.symm]
        refine (congrArg₂ (· + ·) (i1 l) (congrArg (fun z => chunkOf z _ _ _ l _) (funext i2))).trans ?_
        exact acc_succ _ _ (n % 11 + 1) (by omega)
      · exact (congrFun (stB_2 m c ⟨n + 1, hn⟩ hB) (ix2 r l)).trans (i2 l)

/-- After the last chunk's point the block holds the feed-forward rows. -/
theorem last (c : Dev nD) (t : Fin cfg0.N) (h0 : t.val % 11 = 10) (r : Fin 1024) (l : Fin 2048) :
    (show EReal from (outsAt0 m c t.val t.isLt).1 (ix2 r l))
      = ffn (hrow m c (t.val / 11 * 1024 + r.val)) (gain m c) (wgate m c) (wup m c) (wdown m c) l := by
  obtain ⟨i1, -⟩ := inv m c t.val t.isLt r
  refine (i1 l).trans ?_
  rw [h0, ← acc_chunks]
  rfl

/-- The result array: every row the feed-forward part of the same row of the hidden state. -/
def OUT (c : Dev nD) : FVec Ideal S32768x2048 .f32 := fun i =>
  ffn (hrow m c (i 0).val) (gain m c) (wgate m c) (wup m c) (wdown m c) (i 1)

/-- The kernel's result array after the last point. -/
theorem final (c : Dev nD) : (dats m 0 c).arrAt 6 cfg0.N = OUT m c := by
  refine (dats m 0 c).arrAt_eq_of_covers 6 _ (by decide +kernel) fun t hf y => ?_
  blk_simp
  rw [after0_6]
  have hm : t.val % 11 = 10 := (flush0_6 t).mp hf
  obtain ⟨-, -, -, -, -, -, e6, hlt⟩ := idx t
  idx_vars y
  refine (last m c t hm y0 y1).trans ?_
  have hv : ((cfg0.win 6).blk t).view.emb (ix2 y0 y1) = (ix2 ⟨t.val / 11 * 1024 + y0.val, by omega⟩ y1 : S32768x2048.Idx) := by
    blk_ext [e6]
  rw [hv]
  rfl

end Cert.Kernel2Ideal.Ffn

end
-- ==== Proof.Ffn2.Ref.lean ====
/- The reference's result, entry by entry, as the same function of the arguments. -/
module

public import proofs.«01_k».proof.Proof.Gen.Reference2Ideal.Read
public import proofs.«01_k».proof.Proof.Ffn.Math

@[expose] public section

set_option maxRecDepth 16384

noncomputable section

namespace Cert.Reference2Ideal.Ffn

open Idealize.ShloMosaic Idealize.ShloMosaic.TcCoe Idealize.SL.Sem
open Cert.Reference2Ideal Cert.Reference2Ideal.Gen Cert.FfnMath

variable (m : (ℓ : Loc nD τ sig) → Buf (Elt Ideal) ℓ)

variable (A0 : FVec Ideal S4x8192x2048 .f32) (A1 : FVec Ideal S4x2048 .f32) (A2 A3 : FVec Ideal S4x2048x5632 .f32)
  (A4 : FVec Ideal S4x5632x2048 .f32) (A5 : FVec Ideal S2048 .f32)

/-- Row `i` of the hidden state. -/
def hrow (i : Fin 32768) (k : Fin 2048) : EReal := A0 (ix3 ⟨i.val / 8192, by omega⟩ ⟨i.val % 8192, by omega⟩ k)

/-- The hidden state as a matrix of rows. -/
theorem v0_apply (i : Fin 32768) (k : Fin 2048) : Read.val_main_v0 (F := Ideal) A0 (ix2 i k) = hrow A0 i k := by
  pointwise [Read.val_main_v0, hrow]

/-- The normalised row. -/
theorem v15_apply (i : Fin 32768) (k : Fin 2048) :
    Read.val_main_v15 (F := Ideal) A0 A1 (ix2 i k) = rms (hrow A0 i) (fun k => A1 (ix2 0 k)) k := by
  pointwise [Read.val_main_v15, Read.val_main_v14, Read.val_main_v13, Read.val_main_v12, Read.val_main_v11, Read.val_main_v10,
    Read.val_main_v9, Read.val_main_v8, Read.val_main_v7, Read.val_main_v6, Read.val_main_v5, Read.val_main_v4, Read.val_main_v3,
    Read.val_main_v2, Read.val_main_v1, Read.val_main_cst, Read.val_main_cst_0, Read.val_main_cst_1, v0_apply, rms]

/-- The gated activation of one hidden unit. -/
theorem v23_apply (i : Fin 32768) (f : Fin 5632) :
    Read.val_main_v23 (F := Ideal) A0 A1 A2 A3 (ix2 i f)
      = act (rms (hrow A0 i) (fun k => A1 (ix2 0 k))) (fun k => A2 (ix3 0 k f)) (fun k => A3 (ix3 0 k f)) := by
  pointwise [Read.val_main_v23, Read.val_main_v22, Read.val_main_v21, Read.val_main_v20, Read.val_main_v19, Read.val_main_v18, Read.val_main_v17, Read.val_main_v16,
    Read.val_main_call0_v5, Read.val_main_call0_v4, Read.val_main_call0_v3, Read.val_main_call0_v2, Read.val_main_call0_v1, Read.val_main_call0_v0, Read.val_main_call0_cst, Read.val_main_call0_cst_0, v15_apply, act, Ideal.logistic]

/-- The reference's result at row `i`, column `l`. -/
theorem v27_apply (i : Fin 32768) (l : Fin 2048) :
    Read.val_main_v27 (F := Ideal) A0 A1 A2 A3 A4 (ix2 i l)
      = ffn (hrow A0 i) (fun k => A1 (ix2 0 k)) (fun k f => A2 (ix3 0 k f)) (fun k f => A3 (ix3 0 k f)) (fun f l => A4 (ix3 0 f l)) l := by
  pointwise [Read.val_main_v27, Read.val_main_v26, Read.val_main_v25, Read.val_main_v24, v23_apply, v0_apply, ffn]

end Cert.Reference2Ideal.Ffn

end
-- ==== Proof.Ffn2.Claim.lean ====
/- The value claim: the call's result array is the reference's. -/
module

public import proofs.«01_k».proof.Defs
public import proofs.«01_k».proof.Proof.Ffn2.Final
public import proofs.«01_k».proof.Proof.Ffn2.Ref

@[expose] public section

set_option maxRecDepth 16384

noncomputable section

namespace Cert.Proof

open Idealize.ShloMosaic Idealize.ShloMosaic.TcCoe Idealize.SL.Sem

/-- On memories that agree on the arguments the kernel's result array is the reference's, entry by entry. -/
theorem algebraic_Kernel2Ideal_Reference2Ideal : algebraic_Kernel2Ideal_Reference2Ideal := by
  pair_intro
  · run_from Cert.Kernel2Ideal.Gen.run_main m g
  · run_from Cert.Reference2Ideal.Value.run m' g'
    rw [Cert.Kernel2Ideal.Ffn.final m c, Cert.Reference2Ideal.Read.val_main_v27_eq]
    simp only [hagree c]
    funext i
    obtain ⟨i, l, rfl⟩ : ∃ (p : Fin 32768) (q : Fin 2048), i = ix2 p q := ⟨i 0, i 1, by funext d; fin_cases d <;> rfl⟩
    refine (Cert.Reference2Ideal.Ffn.v27_apply _ _ _ _ _  i l).trans ?_
    have e : (fun k => Cert.Kernel2Ideal.Ffn.hrow m c i.val k) = Cert.Reference2Ideal.Ffn.hrow (m ((c.tc : Thread Cert.Kernel2Ideal.nD Cert.Kernel2Ideal.τ).loc Cert.Kernel2Ideal.main_arg0)) i := by
      funext k
      exact congrArg (m ((c : Thread Cert.Kernel2Ideal.nD Cert.Kernel2Ideal.τ).loc Cert.Kernel2Ideal.main_arg0) : FVec Ideal Cert.Kernel2Ideal.S4x8192x2048 .f32) (by idx_ext)
    unfold Cert.Kernel2Ideal.Ffn.OUT
    simp only [← e]
    rfl

end Cert.Proof

end
-- ==== Proof.InProj.Math.lean ====
/- The mathematics of the input projection and of what is done to its columns, over the extended reals and free of any
   program: the two forms of the gelu, the rotation of a head's first lanes, the short convolution, and one entry of the
   projected row and of the row of gates. -/
module

public import Idealize.ShloMosaic.Lib.Pointwise
public import proofs.«01_k».proof.Proof.Ffn.Math

@[expose] public section

set_option maxRecDepth 16384

noncomputable section

namespace Cert.InMath

open Idealize.ShloMosaic

/-- The factor of the kernel's exponent: `-2 s log₂ e` with `s` the float nearest to `√(2/π)`, written as the named constant is. -/
def lin : ℝ := (-1) * ((6693141 / 4194304) * (Real.log 2)⁻¹)

/-- The cubic factor of the kernel's exponent. -/
def cub : ℝ := ((-1) * ((6693141 / 4194304) * (Real.log 2)⁻¹)) * (12003091 / 268435456)

/-- The kernel's gelu: `x / (1 + 2 ^ (x (a + b x²)))`. -/
def geluK (x : EReal) : EReal := Ideal.div x (1 + Ideal.exp2 (x * ((lin : EReal) + (cub : EReal) * (x * x))))

/-- The problem's gelu: `x · (1/2 · (1 + tanh (s (x + c x³))))`, `s` and `c` the floats nearest to `√(2/π)` and 0.044715. -/
def gelu (x : EReal) : EReal :=
  x * (Ideal.ofBits .f32 0x3F000000#32 * (1 + Ideal.tanh (Ideal.ofBits .f32 0x3F4C422A#32 * (x + Ideal.ofBits .f32 0x3D372713#32 * (x * x * x)))))

/-- The word of a half. -/
theorem word_half : Ideal.ofBits .f32 0x3F000000#32 = ((1 / 2 : ℝ) : EReal) := by
  simp [Ideal.ofBits, Ideal.ieee, -EReal.coe_mul]; norm_num

/-- The word of `s`. -/
theorem word_s : Ideal.ofBits .f32 0x3F4C422A#32 = ((6693141 / 8388608 : ℝ) : EReal) := by
  simp [Ideal.ofBits, Ideal.ieee, -EReal.coe_mul]; norm_num

/-- The word of `c`. -/
theorem word_c : Ideal.ofBits .f32 0x3D372713#32 = ((12003091 / 268435456 : ℝ) : EReal) := by
  simp [Ideal.ofBits, Ideal.ieee, -EReal.coe_mul]; norm_num

/-- The linear factor is negative. -/
theorem lin_neg : lin < 0 := by
  unfold lin
  have h2 : 0 < (Real.log 2)⁻¹ := inv_pos.mpr (Real.log_pos (by norm_num))
  nlinarith [h2]

/-- The cubic factor is the linear one times `c`. -/
theorem cub_eq : cub = lin * (12003091 / 268435456) := rfl

/-- The cubic factor is negative. -/
theorem cub_neg : cub < 0 := by
  rw [cub_eq]
  nlinarith [lin_neg]

/-- Over the reals the two forms agree. -/
theorem gelu_real (r : ℝ) :
    r / (1 + (2 : ℝ) ^ (r * (lin + cub * (r * r)))) = r * (1 / 2 * (1 + Real.tanh (6693141 / 8388608 * (r + 12003091 / 268435456 * (r * r * r))))) := by
  have hl : Real.log 2 ≠ 0 := (Real.log_pos (by norm_num)).ne'
  set u : ℝ := 6693141 / 8388608 * (r + 12003091 / 268435456 * (r * r * r)) with hu
  have e : (2 : ℝ) ^ (r * (lin + cub * (r * r))) = Real.exp (-u) * Real.exp (-u) := by
    rw [Real.rpow_def_of_pos (by norm_num), ← Real.exp_add]
    congr 1
    rw [cub_eq, lin, hu]
    field_simp
    ring
  rw [e, Real.tanh_eq_sinh_div_cosh, Real.sinh_eq, Real.cosh_eq]
  have h1 : 0 < Real.exp u := Real.exp_pos u
  have h2 : Real.exp (-u) = (Real.exp u)⁻¹ := Real.exp_neg u
  rw [h2]
  field_simp
  ring

/-- The two forms of the gelu are one function on all extended reals. -/
theorem geluK_eq (x : EReal) : geluK x = gelu x := by
  have hc := cub_neg
  have hp : (0 : ℝ) < 12003091 / 268435456 := by norm_num
  have hs : (0 : ℝ) < 6693141 / 8388608 := by norm_num
  induction x using EReal.rec with
  | bot =>
    simp only [geluK, gelu, word_half, word_s, word_c]
    rw [EReal.bot_mul_bot, EReal.coe_mul_top_of_neg hc, EReal.add_bot, EReal.bot_mul_bot, EReal.top_mul_bot, EReal.coe_mul_bot_of_pos hp,
      EReal.add_bot, EReal.coe_mul_bot_of_pos hs, Ideal.tanh_bot, Ideal.exp2_top]
    have e1 : (1 : EReal) + ⊤ = ⊤ := rfl
    have e2 : (1 : EReal) + -1 = 0 := by
      rw [← EReal.coe_one, ← EReal.coe_neg, ← EReal.coe_add]; norm_num
    rw [e1, e2, mul_zero, mul_zero, Ideal.div, if_neg (by simp), EReal.inv_top, mul_zero]
  | top =>
    simp only [geluK, gelu, word_half, word_s, word_c]
    rw [EReal.top_mul_top, EReal.coe_mul_top_of_neg hc, EReal.add_bot, EReal.top_mul_bot, EReal.top_mul_top, EReal.coe_mul_top_of_pos hp,
      EReal.top_add_top, EReal.coe_mul_top_of_pos hs, Ideal.tanh_top, Ideal.exp2_bot, add_zero]
    have e2 : ((1 / 2 : ℝ) : EReal) * (1 + 1) = 1 := by
      rw [← EReal.coe_one, ← EReal.coe_add, ← EReal.coe_mul]; norm_num
    rw [e2, Ideal.div, if_neg one_ne_zero]
    simp
  | coe r =>
    have h0 : (1 + (2 : ℝ) ^ (r * (lin + cub * (r * r)))) ≠ 0 := by positivity
    have e := gelu_real r
    simp only [geluK, gelu, word_half, word_s, word_c]
    have eq1 : (r : EReal) * ((lin : EReal) + (cub : EReal) * ((r : EReal) * (r : EReal))) = ((r * (lin + cub * (r * r)) : ℝ) : EReal) := by
      push_cast; rfl
    have eq2 : (((6693141 / 8388608 : ℝ) : EReal) * ((r : EReal) + ((12003091 / 268435456 : ℝ) : EReal) * ((r : EReal) * (r : EReal) * (r : EReal))))
        = ((6693141 / 8388608 * (r + 12003091 / 268435456 * (r * r * r)) : ℝ) : EReal) := by
      simp only [EReal.coe_mul, EReal.coe_add]
    rw [eq1, eq2, Ideal.exp2_coe, Ideal.tanh_coe, ← EReal.coe_one, ← EReal.coe_add, ← EReal.coe_add]
    have h0' : (1 + Real.rpow 2 (r * (lin + cub * (r * r)))) ≠ 0 := h0
    rw [Ideal.div_coe h0', ← EReal.coe_mul, ← EReal.coe_mul, ← EReal.coe_mul]
    refine congrArg _ ?_
    rw [← e, mul_one_div]
    rfl

/-- `log σ(g)`, in the stable form `-(max (-g) 0 + log (1 + exp (-|-g|)))`. -/
def lsig (g : EReal) : EReal := -(max (-g) 0 + Ideal.log1p (Ideal.exp (-(max (-g) (- -g)))))

/-- The angle of the rotation of lane pair `j` at position `s`. -/
def ang (s j : ℕ) : EReal :=
  (FloatOps.sitofp (F := Ideal) .f32 (BitVec.ofNat 32 s) : EReal) * Ideal.pow (Ideal.ofBits .f32 0x48F42400#32)
    (Ideal.div (-(0 + Ideal.ofBits .f32 0x40000000#32 * (FloatOps.sitofp (F := Ideal) .f32 (BitVec.ofNat 32 j) : EReal))) (Ideal.ofBits .f32 0x41800000#32))

/-- The cosine of the rotation. -/
def cosT (s j : ℕ) : EReal := Ideal.cos (ang s j)

/-- The sine of the rotation. -/
def sinT (s j : ℕ) : EReal := Ideal.sin (ang s j)

/-- Column `n` of the projected row: the normalised row times the weights, and zero past the last column. -/
def prow (h g : Fin 2048 → EReal) (W : Fin 2048 → Fin 4360 → EReal) (n : ℕ) : EReal :=
  if hn : n < 4360 then ∑ k : Fin 2048, FfnMath.rms h g k * W k ⟨n, hn⟩ else 0

/-- The rotation of one head `x` of 64 lanes: lanes 0 to 7 paired with lanes 8 to 15, the rest as they are. -/
def rotv (x : ℕ → EReal) (co si : ℕ → EReal) (d : ℕ) : EReal :=
  if d < 8 then x d * co d - x (d + 8) * si d
  else if d < 16 then x d * co (d - 8) + x (d - 8) * si (d - 8)
  else x d

/-- The rotation of the head lane that column `l` holds. -/
def rot (p : ℕ → EReal) (co si : ℕ → EReal) (l : ℕ) : EReal := rotv (fun d => p (l / 64 * 64 + d)) co si (l % 64)

/-- The `silu`. -/
def silu (x : EReal) : EReal := x * Ideal.logistic x

/-- The causal convolution of four taps: `q d` the entry `d` rows back. -/
def conv (q : ℕ → EReal) (w : ℕ → EReal) : EReal := q 3 * w 0 + q 2 * w 1 + q 1 * w 2 + q 0 * w 3

/-- Entry `l` of the row the call writes: `p` the projected row, `q d` the projected row `d` rows back in the sequence (zero
    before its start), `co` and `si` the rotation's factors at this position, `vg` the gain of the gated part, `cw` the
    convolution's taps. -/
def entry (p : ℕ → EReal) (q : ℕ → ℕ → EReal) (co si : ℕ → EReal) (vg : ℕ → EReal) (cw : ℕ → ℕ → EReal) (qs cs : EReal) (l : ℕ) : EReal :=
  if l < 512 then gelu (p l)
  else if l < 1024 then
    gelu (p l) * Ideal.rsqrt (Ideal.div (∑ j : Fin 512, gelu (p (512 + j.val)) * gelu (p (512 + j.val))) (Ideal.ofBits .f32 0x44000000#32) + Ideal.ofBits .f32 0x358637BD#32) * vg (l - 512)
  else if l < 2048 then rot p co si l * qs
  else if l < 2176 then rot p co si l
  else if l < 2304 then p l
  else if l < 2816 then silu (conv (fun d => q d l) (fun t => cw t (l - 2304))) * cs
  else if l < 3328 then silu (conv (fun d => q d l) (fun t => cw t (l - 2304)))
  else if l < 3840 then p l
  else Ideal.logistic (p l)

/-- Lane `l` of the row of gates: four input gates, four forget gates, and zeros. -/
def gate (p : ℕ → EReal) (ib fb : ℕ → EReal) (l : ℕ) : EReal :=
  if l < 4 then p (4352 + l) + ib l else if l < 8 then lsig (p (4352 + l) + fb (l - 4)) else 0

section parts

variable {p : ℕ → EReal} {q : ℕ → ℕ → EReal} {co si : ℕ → EReal} {vg : ℕ → EReal} {cw : ℕ → ℕ → EReal} {qs cs : EReal} {l : ℕ}

/-- The columns from 0 to 511. -/
theorem entry0 (h2 : l < 512) : entry p q co si vg cw qs cs l = gelu (p l) := by
  unfold entry
  rw [if_pos (by omega)]

/-- The columns from 512 to 1023. -/
theorem entry1 (h1 : 512 ≤ l) (h2 : l < 1024) : entry p q co si vg cw qs cs l = gelu (p l) * Ideal.rsqrt (Ideal.div (∑ j : Fin 512, gelu (p (512 + j.val)) * gelu (p (512 + j.val))) (Ideal.ofBits .f32 0x44000000#32) + Ideal.ofBits .f32 0x358637BD#32) * vg (l - 512) := by
  unfold entry
  rw [if_neg (by omega), if_pos (by omega)]

/-- The columns from 1024 to 2047. -/
theorem entry2 (h1 : 1024 ≤ l) (h2 : l < 2048) : entry p q co si vg cw qs cs l = rot p co si l * qs := by
  unfold entry
  rw [if_neg (by omega), if_neg (by omega), if_pos (by omega)]

/-- The columns from 2048 to 2175. -/
theorem entry3 (h1 : 2048 ≤ l) (h2 : l < 2176) : entry p q co si vg cw qs cs l = rot p co si l := by
  unfold entry
  rw [if_neg (by omega), if_neg (by omega), if_neg (by omega), if_pos (by omega)]

/-- The columns from 2176 to 2303. -/
theorem entry4 (h1 : 2176 ≤ l) (h2 : l < 2304) : entry p q co si vg cw qs cs l = p l := by
  unfold entry
  rw [if_neg (by omega), if_neg (by omega), if_neg (by omega), if_neg (by omega), if_pos (by omega)]

/-- The columns from 2304 to 2815. -/
theorem entry5 (h1 : 2304 ≤ l) (h2 : l < 2816) : entry p q co si vg cw qs cs l = silu (conv (fun d => q d l) (fun t => cw t (l - 2304))) * cs := by
  unfold entry
  rw [if_neg (by omega), if_neg (by omega), if_neg (by omega), if_neg (by omega), if_neg (by omega), if_pos (by omega)]

/-- The columns from 2816 to 3327. -/
theorem entry6 (h1 : 2816 ≤ l) (h2 : l < 3328) : entry p q co si vg cw qs cs l = silu (conv (fun d => q d l) (fun t => cw t (l - 2304))) := by
  unfold entry
  rw [if_neg (by omega), if_neg (by omega), if_neg (by omega), if_neg (by omega), if_neg (by omega), if_neg (by omega), if_pos (by omega)]

/-- The columns from 3328 to 3839. -/
theorem entry7 (h1 : 3328 ≤ l) (h2 : l < 3840) : entry p q co si vg cw qs cs l = p l := by
  unfold entry
  rw [if_neg (by omega), if_neg (by omega), if_neg (by omega), if_neg (by omega), if_neg (by omega), if_neg (by omega), if_neg (by omega), if_pos (by omega)]

/-- The columns from 3840 on. -/
theorem entry8 (h1 : 3840 ≤ l) : entry p q co si vg cw qs cs l = Ideal.logistic (p l) := by
  unfold entry
  rw [if_neg (by omega), if_neg (by omega), if_neg (by omega), if_neg (by omega), if_neg (by omega), if_neg (by omega), if_neg (by omega), if_neg (by omega)]

end parts

section gates

variable {p ib fb : ℕ → EReal} {l : ℕ}

/-- The lanes of the input gates. -/
theorem gate0 (h : l < 4) : gate p ib fb l = p (4352 + l) + ib l := by
  unfold gate
  rw [if_pos h]

/-- The lanes of the forget gates. -/
theorem gate1 (h1 : 4 ≤ l) (h2 : l < 8) : gate p ib fb l = lsig (p (4352 + l) + fb (l - 4)) := by
  unfold gate
  rw [if_neg (by omega), if_pos h2]

/-- The lanes past the gates. -/
theorem gate2 (h : 8 ≤ l) : gate p ib fb l = 0 := by
  unfold gate
  rw [if_neg (by omega), if_neg (by omega)]

end gates

end Cert.InMath

end
-- ==== Proof.InProj.Pay.lean ====
/- The kernel's payloads entry by entry: the products with the weights, the gelus and the norm of the gating part, the short
   convolution, the rotation, and the gates. -/
module

public import proofs.«01_k».proof.Proof.Gen.Kernel3Ideal.Skeleton
public import proofs.«01_k».proof.Proof.InProj.Math

@[expose] public section

set_option maxRecDepth 16384

noncomputable section

namespace Cert.Kernel3Ideal.InProj

open Idealize.ShloMosaic Idealize.ShloMosaic.TcCoe Idealize.SL.Sem
open Cert.Kernel3Ideal Cert.Kernel3Ideal.Gen Cert.InMath Cert.FfnMath

/-- The linear factor as the program names it. -/
theorem named_lin : Named.named (F := Ideal) (φ := .f32) Kernel3Ideal.κ "gelu_lin" 0xC0135761#32 = ((lin : ℝ) : EReal) :=
  IdealRules.named_const.ideal_named_scalar _ _ _ _ rfl

/-- The cubic factor as the program names it. -/
theorem named_cub : Named.named (F := Ideal) (φ := .f32) Kernel3Ideal.κ "gelu_cub" 0xBDD2D3E8#32 = ((cub : ℝ) : EReal) :=
  IdealRules.named_const.ideal_named_scalar _ _ _ _ rfl

/-- The power of two over the extended reals. -/
theorem exp2_id (x : EReal) : FloatOps.exp2 (F := Ideal) (φ := .f32) x = Ideal.exp2 x := rfl

/-- Zero minus a number. -/
theorem zsub (x : EReal) : 0 - x = -x := by rw [sub_eq_add_neg, zero_add]

/-- A number minus zero. -/
theorem subz (x : EReal) : x - 0 = x := by rw [sub_eq_add_neg, neg_zero, add_zero]

variable (hn : FVec Ideal S512x2048 .bf16)

/-- One row of the tile times one column of a block of 256 columns of the weights. -/
def mm (w : FVec Ideal S1x2048x256 .bf16) (r : Fin 512) (j : Fin 256) : EReal := ∑ k : Fin 2048, hn (ix2 r k) * w (ix3 0 k j)

/-- The normalised rows of a tile. -/
theorem pay2_apply (x : FVec Ideal S512x2048 .f32) (g : FVec Ideal S1x2048 .f32) (r : Fin 512) (k : Fin 2048) :
    k0_pay2 (F := Ideal) x g (ix2 r k) = rms (fun k => x (ix2 r k)) (fun k => g (ix2 0 k)) k := by
  pointwise [k0_pay2, rms]

/-- A product of the tile with a block of the weights. -/
theorem pay3_apply (w : FVec Ideal S1x2048x256 .bf16) (r : Fin 512) (j : Fin 256) :
    k0_pay3 (F := Ideal) hn w (ix2 r j)
      = mm hn w r j := by
  pointwise [k0_pay3, mm]

/-- A product of the tile with a block of the weights. -/
theorem pay4_apply (w : FVec Ideal S1x2048x256 .bf16) (r : Fin 512) (j : Fin 256) :
    k0_pay4 (F := Ideal) hn w (ix2 r j)
      = mm hn w r j := by
  pointwise [k0_pay4, mm]

/-- A product of the tile with a block of the weights. -/
theorem pay5_apply (w : FVec Ideal S1x2048x256 .bf16) (r : Fin 512) (j : Fin 256) :
    k0_pay5 (F := Ideal) hn w (ix2 r j)
      = mm hn w r j := by
  pointwise [k0_pay5, mm]

/-- A product of the tile with a block of the weights. -/
theorem pay30_apply (w : FVec Ideal S1x2048x256 .bf16) (r : Fin 512) (j : Fin 256) :
    k0_pay30 (F := Ideal) hn w (ix2 r j)
      = mm hn w r j := by
  pointwise [k0_pay30, mm]

/-- A product of the tile with a block of the weights. -/
theorem pay31_apply (w : FVec Ideal S1x2048x256 .bf16) (r : Fin 512) (j : Fin 256) :
    k0_pay31 (F := Ideal) hn w (ix2 r j)
      = mm hn w r j := by
  pointwise [k0_pay31, mm]

/-- A product of the tile with a block of the weights. -/
theorem pay36_apply (w : FVec Ideal S1x2048x256 .bf16) (r : Fin 512) (j : Fin 256) :
    k0_pay36 (F := Ideal) hn w (ix2 r j)
      = mm hn w r j := by
  pointwise [k0_pay36, mm]

/-- A product of the tile with a block of the weights. -/
theorem pay37_apply (w : FVec Ideal S1x2048x256 .bf16) (r : Fin 512) (j : Fin 256) :
    k0_pay37 (F := Ideal) hn w (ix2 r j)
      = mm hn w r j := by
  pointwise [k0_pay37, mm]

/-- A product of the tile with a block of the weights. -/
theorem pay48_apply (w : FVec Ideal S1x2048x256 .bf16) (r : Fin 512) (j : Fin 256) :
    k0_pay48 (F := Ideal) hn w (ix2 r j)
      = mm hn w r j := by
  pointwise [k0_pay48, mm]

/-- A product of the tile with a block of the weights. -/
theorem pay49_apply (w : FVec Ideal S1x2048x256 .bf16) (r : Fin 512) (j : Fin 256) :
    k0_pay49 (F := Ideal) hn w (ix2 r j)
      = mm hn w r j := by
  pointwise [k0_pay49, mm]

/-- A product of the tile with a block of the weights. -/
theorem pay50_apply (w : FVec Ideal S1x2048x256 .bf16) (r : Fin 512) (j : Fin 256) :
    k0_pay50 (F := Ideal) hn w (ix2 r j)
      = mm hn w r j := by
  pointwise [k0_pay50, mm]

/-- A product of the tile with a block of the weights. -/
theorem pay51_apply (w : FVec Ideal S1x2048x256 .bf16) (r : Fin 512) (j : Fin 256) :
    k0_pay51 (F := Ideal) hn w (ix2 r j)
      = mm hn w r j := by
  pointwise [k0_pay51, mm]

/-- A product of the tile with a block of the weights. -/
theorem pay65_apply (w : FVec Ideal S1x2048x256 .bf16) (r : Fin 512) (j : Fin 256) :
    k0_pay65 (F := Ideal) hn w (ix2 r j)
      = mm hn w r j := by
  pointwise [k0_pay65, mm]

/-- A product of the tile with a block of the weights. -/
theorem pay71_apply (w : FVec Ideal S1x2048x256 .bf16) (r : Fin 512) (j : Fin 256) :
    k0_pay71 (F := Ideal) hn w (ix2 r j)
      = mm hn w r j := by
  pointwise [k0_pay71, mm]

/-- A product of the tile with a block of the weights. -/
theorem pay7_apply (w : FVec Ideal S1x2048x256 .bf16) (r : Fin 512) (j : Fin 256) :
    k0_pay7 (F := Ideal) hn (k0_pay6 w) (constant S512x256 .f32 0x00000000#32) (ix2 r j)
      = mm hn w r j := by
  pointwise [k0_pay7, k0_pay6, mm]

/-- A product of the tile with a block of the weights. -/
theorem pay69_apply (w : FVec Ideal S1x2048x256 .bf16) (r : Fin 512) (j : Fin 256) :
    k0_pay69 (F := Ideal) hn w (ix2 r j)
      = mm hn w r j := by
  pointwise [k0_pay69, mm]

/-- A product of the tile with a block of the weights. -/
theorem pay70_apply (w : FVec Ideal S1x2048x256 .bf16) (r : Fin 512) (j : Fin 256) :
    k0_pay70 (F := Ideal) hn w (ix2 r j)
      = mm hn w r j := by
  pointwise [k0_pay70, mm]

/-- The sigmoid of the output gate. -/
theorem pay73_apply (v : FVec Ideal S512x256 .f32) (r : Fin 512) (j : Fin 256) :
    k0_pay73 (F := Ideal) v (ix2 r j)
      = Ideal.logistic (v (ix2 r j)) := by
  pointwise [k0_pay73]

/-- The sigmoid of the output gate. -/
theorem pay74_apply (w : FVec Ideal S1x2048x256 .bf16) (r : Fin 512) (j : Fin 256) :
    k0_pay74 (F := Ideal) hn (k0_pay72 w) (constant S512x256 .f32 0x00000000#32) (ix2 r j)
      = Ideal.logistic (mm hn w r j) := by
  pointwise [k0_pay74, k0_pay72, mm]

/-- The gelu of a block of the gated part. -/
theorem pay33_apply (w : FVec Ideal S1x2048x256 .bf16) (r : Fin 512) (j : Fin 256) :
    k0_pay33 (F := Ideal) (k0_pay30 hn w) (k0_pay32 hn w) (ix2 r j)
      = geluK (mm hn w r j) := by
  pointwise [k0_pay33, k0_pay32, pay30_apply, named_lin, named_cub, exp2_id, geluK]

/-- The gelu of a block of the gated part. -/
theorem pay34_apply (v : FVec Ideal S512x256 .f32) (r : Fin 512) (j : Fin 256) :
    k0_pay34 (F := Ideal) v (ix2 r j)
      = geluK (v (ix2 r j)) := by
  pointwise [k0_pay34, named_lin, named_cub, exp2_id, geluK]

/-- The gelu of the first block of the gating part. -/
theorem pay39_apply (w : FVec Ideal S1x2048x256 .bf16) (r : Fin 512) (j : Fin 256) :
    k0_pay39 (F := Ideal) (k0_pay36 hn w) (k0_pay38 hn w) (ix2 r j)
      = geluK (mm hn w r j) := by
  pointwise [k0_pay39, k0_pay38, pay36_apply, named_lin, named_cub, exp2_id, geluK]

/-- The same, as it is stored. -/
theorem pay40_apply (w : FVec Ideal S1x2048x256 .bf16) (r : Fin 512) (j : Fin 256) :
    k0_pay40 (F := Ideal) (k0_pay36 hn w) (k0_pay38 hn w) (ix2 r j)
      = geluK (mm hn w r j) := by
  pointwise [k0_pay40, pay39_apply]

/-- The gelu of the second block of the gating part. -/
theorem pay41_apply (v : FVec Ideal S512x256 .f32) (r : Fin 512) (j : Fin 256) :
    k0_pay41 (F := Ideal) v (ix2 r j)
      = geluK (v (ix2 r j)) := by
  pointwise [k0_pay41, named_lin, named_cub, exp2_id, geluK]

/-- The same, as it is stored. -/
theorem pay42_apply (v : FVec Ideal S512x256 .f32) (r : Fin 512) (j : Fin 256) :
    k0_pay42 (F := Ideal) v (ix2 r j)
      = geluK (v (ix2 r j)) := by
  pointwise [k0_pay42, pay41_apply]

/-- The normalised gating part. -/
theorem pay44_apply (w w2 : FVec Ideal S1x2048x256 .bf16) (V : FVec Ideal S512x512 .f32) (g : FVec Ideal S1x512 .f32) (r : Fin 512) (j : Fin 512) :
    k0_pay44 (F := Ideal) (k0_pay43 k0_pay35 (k0_pay36 hn w) (k0_pay37 hn w2) (k0_pay38 hn w) V g) (ix2 r j)
      = V (ix2 r j) * Ideal.rsqrt ((∑ i : Fin 256, geluK (mm hn w r i) * geluK (mm hn w r i) + ∑ i : Fin 256, geluK (mm hn w2 r i) * geluK (mm hn w2 r i)) * Ideal.ofBits .f32 0x3B000000#32 + Ideal.ofBits .f32 0x358637BD#32) * g (ix2 0 j) := by
  pointwise [k0_pay44, k0_pay43, k0_pay35, pay39_apply, pay41_apply, pay37_apply]

/-- One entry of the convolution's block: `v` the buffer with the eight carried rows in front. -/
def convV (v : FVec Ideal S520x128 .f32) (w3 w0 w1 w2 : FVec Ideal S1x128 .f32) (r : Fin 512) (j : Fin 128) : EReal :=
  silu (v (ix2 ⟨8 + r.val, by omega⟩ j) * w3 (ix2 0 j) + v (ix2 ⟨5 + r.val, by omega⟩ j) * w0 (ix2 0 j)
    + v (ix2 ⟨6 + r.val, by omega⟩ j) * w1 (ix2 0 j) + v (ix2 ⟨7 + r.val, by omega⟩ j) * w2 (ix2 0 j))

/-- A block of the convolution and its silu. -/
theorem pay9_apply (v : FVec Ideal S520x128 .f32) (a b c d : FVec Ideal S1x128 .f32) (r : Fin 512) (j : Fin 128) :
    k0_pay9 (F := Ideal) v a b c d (ix2 r j)
      = convV v a b c d r j * Ideal.ofBits .f32 0x3DB504F3#32 := by
  pointwise [k0_pay9, convV, silu]
  have e3 : (8 + r.val + 520 - 3) % 520 = 5 + r.val := by omega
  have e2 : (8 + r.val + 520 - 2) % 520 = 6 + r.val := by omega
  have e1 : (8 + r.val + 520 - 1) % 520 = 7 + r.val := by omega
  simp only [e3, e2, e1]

/-- A block of the convolution and its silu. -/
theorem pay10_apply (v : FVec Ideal S520x128 .f32) (a b c d : FVec Ideal S1x128 .f32) (r : Fin 512) (j : Fin 128) :
    k0_pay10 (F := Ideal) v a b c d (ix2 r j)
      = convV v a b c d r j * Ideal.ofBits .f32 0x3DB504F3#32 := by
  pointwise [k0_pay10, convV, silu]
  have e3 : (8 + r.val + 520 - 3) % 520 = 5 + r.val := by omega
  have e2 : (8 + r.val + 520 - 2) % 520 = 6 + r.val := by omega
  have e1 : (8 + r.val + 520 - 1) % 520 = 7 + r.val := by omega
  simp only [e3, e2, e1]

/-- A block of the convolution and its silu. -/
theorem pay12_apply (v : FVec Ideal S520x128 .f32) (a b c d : FVec Ideal S1x128 .f32) (r : Fin 512) (j : Fin 128) :
    k0_pay12 (F := Ideal) v a b c d (ix2 r j)
      = convV v a b c d r j * Ideal.ofBits .f32 0x3DB504F3#32 := by
  pointwise [k0_pay12, convV, silu]
  have e3 : (8 + r.val + 520 - 3) % 520 = 5 + r.val := by omega
  have e2 : (8 + r.val + 520 - 2) % 520 = 6 + r.val := by omega
  have e1 : (8 + r.val + 520 - 1) % 520 = 7 + r.val := by omega
  simp only [e3, e2, e1]

/-- A block of the convolution and its silu. -/
theorem pay14_apply (v : FVec Ideal S520x128 .f32) (a b c d : FVec Ideal S1x128 .f32) (r : Fin 512) (j : Fin 128) :
    k0_pay14 (F := Ideal) v (k0_pay13 v) a b c d (ix2 r j)
      = convV v a b c d r j * Ideal.ofBits .f32 0x3DB504F3#32 := by
  pointwise [k0_pay14, k0_pay13, convV, silu]
  have e3 : (8 + r.val + 520 - 3) % 520 = 5 + r.val := by omega
  have e2 : (8 + r.val + 520 - 2) % 520 = 6 + r.val := by omega
  have e1 : (8 + r.val + 520 - 1) % 520 = 7 + r.val := by omega
  simp only [e3, e2, e1]

/-- A block of the convolution and its silu. -/
theorem pay17_apply (v : FVec Ideal S520x128 .f32) (a b c d : FVec Ideal S1x128 .f32) (r : Fin 512) (j : Fin 128) :
    k0_pay17 (F := Ideal) v (k0_pay16 v) a b c d (ix2 r j)
      = convV v a b c d r j := by
  pointwise [k0_pay17, k0_pay16, convV, silu]
  have e3 : (8 + r.val + 520 - 3) % 520 = 5 + r.val := by omega
  have e2 : (8 + r.val + 520 - 2) % 520 = 6 + r.val := by omega
  have e1 : (8 + r.val + 520 - 1) % 520 = 7 + r.val := by omega
  simp only [e3, e2, e1]

/-- A block of the convolution and its silu. -/
theorem pay20_apply (v : FVec Ideal S520x128 .f32) (a b c d : FVec Ideal S1x128 .f32) (r : Fin 512) (j : Fin 128) :
    k0_pay20 (F := Ideal) v (k0_pay18 v a) (k0_pay19 v) b c d (ix2 r j)
      = convV v a b c d r j := by
  pointwise [k0_pay20, k0_pay18, k0_pay19, convV, silu]
  have e3 : (8 + r.val + 520 - 3) % 520 = 5 + r.val := by omega
  have e2 : (8 + r.val + 520 - 2) % 520 = 6 + r.val := by omega
  have e1 : (8 + r.val + 520 - 1) % 520 = 7 + r.val := by omega
  simp only [e3, e2, e1]

/-- A block of the convolution and its silu. -/
theorem pay25_apply (v : FVec Ideal S520x128 .f32) (a b c d : FVec Ideal S1x128 .f32) (r : Fin 512) (j : Fin 128) :
    k0_pay25 (F := Ideal) v (k0_pay22 v a) (k0_pay23 v) (k0_pay24 b) c d (ix2 r j)
      = convV v a b c d r j := by
  pointwise [k0_pay25, k0_pay22, k0_pay23, k0_pay24, convV, silu]
  have e3 : (8 + r.val + 520 - 3) % 520 = 5 + r.val := by omega
  have e2 : (8 + r.val + 520 - 2) % 520 = 6 + r.val := by omega
  have e1 : (8 + r.val + 520 - 1) % 520 = 7 + r.val := by omega
  simp only [e3, e2, e1]

/-- A block of the convolution and its silu. -/
theorem pay28_apply (v : FVec Ideal S520x128 .f32) (a b c d : FVec Ideal S1x128 .f32) (r : Fin 512) (j : Fin 128) :
    k0_pay28 (F := Ideal) v (k0_pay26 v a b) (k0_pay27 v) c d (ix2 r j)
      = convV v a b c d r j := by
  pointwise [k0_pay28, k0_pay26, k0_pay27, convV, silu]
  have e3 : (8 + r.val + 520 - 3) % 520 = 5 + r.val := by omega
  have e2 : (8 + r.val + 520 - 2) % 520 = 6 + r.val := by omega
  have e1 : (8 + r.val + 520 - 1) % 520 = 7 + r.val := by omega
  simp only [e3, e2, e1]

/-- One entry of a rotated block of 128 lanes: `x` the block, `c`, `s1`, `s2` the three tables. -/
def rotK (x : Fin 128 → EReal) (c s1 s2 : FVec Ideal S512x128 .f32) (r : Fin 512) (j : Fin 128) : EReal :=
  x j * c (ix2 r j) + x ⟨(j.val + 8) % 128, by omega⟩ * s1 (ix2 r j) + x ⟨(j.val + 120) % 128, by omega⟩ * s2 (ix2 r j)

/-- The first 128 columns of a block of 256. -/
def lo (v : Fin 256 → EReal) (n : Fin 128) : EReal := v ⟨n.val, by omega⟩

/-- The last 128 columns of a block of 256. -/
def hi (v : Fin 256 → EReal) (n : Fin 128) : EReal := v ⟨128 + n.val, by omega⟩

/-- A rotated and scaled block of the queries. -/
theorem pay53_apply (w : FVec Ideal S1x2048x256 .bf16) (c s1 s2 : FVec Ideal S512x128 .f32) (r : Fin 512) (j : Fin 128) :
    k0_pay53 (F := Ideal) (k0_pay52 hn c s1 s2 w) (ix2 r j)
      = rotK (lo (mm hn w r)) c s1 s2 r j * Ideal.ofBits .f32 0x3E38AA3B#32 := by
  pointwise [k0_pay53, k0_pay52, pay48_apply, k0_pay45, k0_pay46, k0_pay47, rotK, lo, hi]
  have e1 : (j.val + 128 - 120) % 128 = (j.val + 8) % 128 := by omega
  have e2 : (j.val + 128 - 8) % 128 = (j.val + 120) % 128 := by omega
  simp only [e1, e2]

/-- A rotated and scaled block of the queries. -/
theorem pay54_apply (v : FVec Ideal S512x256 .f32) (c s1 s2 : FVec Ideal S512x128 .f32) (r : Fin 512) (j : Fin 128) :
    k0_pay54 (F := Ideal) (k0_pay45 c) (k0_pay46 s1) (k0_pay47 s2) v (ix2 r j)
      = rotK (hi (fun n => v (ix2 r n))) c s1 s2 r j * Ideal.ofBits .f32 0x3E38AA3B#32 := by
  pointwise [k0_pay54, k0_pay45, k0_pay46, k0_pay47, rotK, lo, hi]
  have e1 : (j.val + 128 - 120) % 128 = (j.val + 8) % 128 := by omega
  have e2 : (j.val + 128 - 8) % 128 = (j.val + 120) % 128 := by omega
  simp only [e1, e2]

/-- A rotated and scaled block of the queries. -/
theorem pay55_apply (v : FVec Ideal S512x256 .f32) (c s1 s2 : FVec Ideal S512x128 .f32) (r : Fin 512) (j : Fin 128) :
    k0_pay55 (F := Ideal) (k0_pay45 c) (k0_pay46 s1) (k0_pay47 s2) v (ix2 r j)
      = rotK (lo (fun n => v (ix2 r n))) c s1 s2 r j * Ideal.ofBits .f32 0x3E38AA3B#32 := by
  pointwise [k0_pay55, k0_pay45, k0_pay46, k0_pay47, rotK, lo, hi]
  have e1 : (j.val + 128 - 120) % 128 = (j.val + 8) % 128 := by omega
  have e2 : (j.val + 128 - 8) % 128 = (j.val + 120) % 128 := by omega
  simp only [e1, e2]

/-- A rotated and scaled block of the queries. -/
theorem pay58_apply (v : FVec Ideal S512x256 .f32) (c s1 s2 : FVec Ideal S512x128 .f32) (r : Fin 512) (j : Fin 128) :
    k0_pay58 (F := Ideal) (k0_pay45 c) (k0_pay46 s1) (k0_pay47 s2) v (ix2 r j)
      = rotK (lo (fun n => v (ix2 r n))) c s1 s2 r j * Ideal.ofBits .f32 0x3E38AA3B#32 := by
  pointwise [k0_pay58, k0_pay45, k0_pay46, k0_pay47, rotK, lo, hi]
  have e1 : (j.val + 128 - 120) % 128 = (j.val + 8) % 128 := by omega
  have e2 : (j.val + 128 - 8) % 128 = (j.val + 120) % 128 := by omega
  simp only [e1, e2]

/-- A rotated and scaled block of the queries. -/
theorem pay59_apply (v : FVec Ideal S512x256 .f32) (c s1 s2 : FVec Ideal S512x128 .f32) (r : Fin 512) (j : Fin 128) :
    k0_pay59 (F := Ideal) (k0_pay45 c) (k0_pay46 s1) (k0_pay47 s2) v (ix2 r j)
      = rotK (hi (fun n => v (ix2 r n))) c s1 s2 r j * Ideal.ofBits .f32 0x3E38AA3B#32 := by
  pointwise [k0_pay59, k0_pay45, k0_pay46, k0_pay47, rotK, lo, hi]
  have e1 : (j.val + 128 - 120) % 128 = (j.val + 8) % 128 := by omega
  have e2 : (j.val + 128 - 8) % 128 = (j.val + 120) % 128 := by omega
  simp only [e1, e2]

/-- A rotated and scaled block of the queries. -/
theorem pay64_apply (v : FVec Ideal S512x256 .f32) (c s1 s2 : FVec Ideal S512x128 .f32) (r : Fin 512) (j : Fin 128) :
    k0_pay64 (F := Ideal) (k0_pay45 c) (k0_pay46 s1) (k0_pay47 s2) v (ix2 r j)
      = rotK (hi (fun n => v (ix2 r n))) c s1 s2 r j * Ideal.ofBits .f32 0x3E38AA3B#32 := by
  pointwise [k0_pay64, k0_pay45, k0_pay46, k0_pay47, rotK, lo, hi]
  have e1 : (j.val + 128 - 120) % 128 = (j.val + 8) % 128 := by omega
  have e2 : (j.val + 128 - 8) % 128 = (j.val + 120) % 128 := by omega
  simp only [e1, e2]

/-- A rotated and scaled block of the queries. -/
theorem pay57_apply (v : FVec Ideal S512x256 .f32) (c s1 s2 : FVec Ideal S512x128 .f32) (r : Fin 512) (j : Fin 128) :
    k0_pay57 (F := Ideal) (k0_pay56 (k0_pay45 c) (k0_pay46 s1) (k0_pay47 s2) v) (Scalar.ofBits .f32 0x3E38AA3B#32) (ix2 r j)
      = rotK (hi (fun n => v (ix2 r n))) c s1 s2 r j * Ideal.ofBits .f32 0x3E38AA3B#32 := by
  pointwise [k0_pay57, k0_pay56, k0_pay45, k0_pay46, k0_pay47, rotK, lo, hi]
  have e1 : (j.val + 128 - 120) % 128 = (j.val + 8) % 128 := by omega
  have e2 : (j.val + 128 - 8) % 128 = (j.val + 120) % 128 := by omega
  simp only [e1, e2]

/-- A rotated and scaled block of the queries. -/
theorem pay63_apply (v : FVec Ideal S512x256 .f32) (c s1 s2 : FVec Ideal S512x128 .f32) (r : Fin 512) (j : Fin 128) :
    k0_pay63 (F := Ideal) (k0_pay47 s2) (k0_pay60 v) (k0_pay61 (k0_pay45 c) v) (k0_pay62 (k0_pay46 s1) v) (ix2 r j)
      = rotK (lo (fun n => v (ix2 r n))) c s1 s2 r j * Ideal.ofBits .f32 0x3E38AA3B#32 := by
  pointwise [k0_pay63, k0_pay60, k0_pay61, k0_pay62, k0_pay45, k0_pay46, k0_pay47, rotK, lo, hi]
  have e1 : (j.val + 128 - 120) % 128 = (j.val + 8) % 128 := by omega
  have e2 : (j.val + 128 - 8) % 128 = (j.val + 120) % 128 := by omega
  simp only [e1, e2]

/-- The rotated keys. -/
theorem pay67_apply (w : FVec Ideal S1x2048x256 .bf16) (c s1 s2 : FVec Ideal S512x128 .f32) (r : Fin 512) (j : Fin 128) :
    k0_pay67 (F := Ideal) (k0_pay66 hn (k0_pay45 c) (k0_pay46 s1) (k0_pay47 s2) w) (ix2 r j)
      = rotK (lo (mm hn w r)) c s1 s2 r j := by
  pointwise [k0_pay67, k0_pay66, pay65_apply, k0_pay45, k0_pay46, k0_pay47, rotK, lo, hi]
  have e1 : (j.val + 128 - 120) % 128 = (j.val + 8) % 128 := by omega
  have e2 : (j.val + 128 - 8) % 128 = (j.val + 120) % 128 := by omega
  simp only [e1, e2]

/-- The values. -/
theorem pay68_apply (v : FVec Ideal S512x256 .f32) (r : Fin 512) (j : Fin 128) :
    k0_pay68 (F := Ideal) v (ix2 r j)
      = hi (fun n => v (ix2 r n)) j := by
  pointwise [k0_pay68, hi]

/-- The product of the tile with the block of 128 columns that holds the gates, and the biases. -/
def gm (w : FVec Ideal S1x2048x128 .bf16) (b : FVec Ideal S1x128 .f32) (r : Fin 512) (j : Fin 128) : EReal :=
  (∑ k : Fin 2048, hn (ix2 r k) * w (ix3 0 k j)) + b (ix2 0 j)

/-- A comparison of an extended real with itself for difference is false. -/
theorem cmp_self (x : EReal) : Ideal.cmp .one x x = 0#1 := by
  simp [Ideal.cmp]

/-- A gate before its nonlinearity. -/
theorem pay75_apply (w : FVec Ideal S1x2048x128 .bf16) (b : FVec Ideal S1x128 .f32) (r : Fin 512) (j : Fin 128) :
    k0_pay75 (F := Ideal) hn w b (ix2 r j)
      = gm hn w b r j := by
  pointwise [k0_pay75, gm]

/-- A gate before its nonlinearity. -/
theorem pay77_apply (w : FVec Ideal S1x2048x128 .bf16) (b : FVec Ideal S1x128 .f32) (r : Fin 512) (j : Fin 128) :
    k0_pay77 (F := Ideal) hn w b (ix2 r j)
      = -gm hn w b r j := by
  pointwise [k0_pay77, pay75_apply, zsub, subz, gm]

/-- A gate before its nonlinearity. -/
theorem pay78_apply (w : FVec Ideal S1x2048x128 .bf16) (b : FVec Ideal S1x128 .f32) (r : Fin 512) (j : Fin 128) :
    k0_pay78 (F := Ideal) hn w b (ix2 r j)
      = -gm hn w b r j := by
  pointwise [k0_pay78, pay75_apply, zsub, subz, pay77_apply, gm]

/-- The mask of the forget gates' lanes. -/
theorem mask_eq : ∀ j : Fin 128, IntOp.andi (IntOp.cmpi CmpIPredicate.sge (BitVec.ofNat 32 j.val) 4#32) (IntOp.cmpi CmpIPredicate.slt (BitVec.ofNat 32 j.val) 8#32)
    = if 4 ≤ j.val ∧ j.val < 8 then 1#1 else 0#1 := by
  decide +kernel

/-- The gates. -/
theorem pay1_apply (w : FVec Ideal S1x2048x128 .bf16) (b : FVec Ideal S1x128 .f32) (r : Fin 512) (j : Fin 128) :
    k0_pay1 (F := Ideal) (k0_pay75 (F := Ideal) hn w b) k0_pay76 (k0_pay79 (F := Ideal) hn w b) (k0_pay80 (F := Ideal) hn w b) (k0_pay81 (F := Ideal) hn w b) (ix2 r j)
      = if 4 ≤ j.val ∧ j.val < 8 then lsig (gm hn w b r j) else gm hn w b r j := by
  pointwise [k0_pay1, k0_pay76, k0_pay79, k0_pay80, k0_pay81, pay75_apply, pay77_apply, pay78_apply, cmp_self, zsub, subz, lsig]
  rw [mask_eq j]
  by_cases h : 4 ≤ j.val ∧ j.val < 8
  · rw [if_pos h, if_pos h]; rfl
  · rw [if_neg h, if_neg h]; rfl

end Cert.Kernel3Ideal.InProj

end
-- ==== Proof.InProj.Parts.lean ====
/- The pieces of one point's output block in the terms of the problem: a column of the product with the weights, a rotated head,
   the convolution, and the sum of squares of the gating part. -/
module

public import proofs.«01_k».proof.Proof.InProj.Pay
public import Idealize.ShloMosaic.Lib.Pipeline.ValueKit
public import Idealize.ShloMosaic.Lib.Pipeline.ReadBack

@[expose] public section

set_option maxRecDepth 16384

noncomputable section

namespace Cert.Kernel3Ideal.InProj

open Idealize.ShloMosaic Idealize.ShloMosaic.TcCoe Idealize.SL.Sem
open Cert.Kernel3Ideal Cert.Kernel3Ideal.Gen Cert.InMath Cert.FfnMath

variable (hn : FVec Ideal S512x2048 .bf16) (W : FVec Ideal S1x2048x4480 .bf16)

/-- Row `r` of the tile times column `n` of the weights, zero where either does not exist. -/
def pcol (r n : ℕ) : EReal :=
  if h : r < 512 ∧ n < 4480 then ∑ k : Fin 2048, hn (ix2 ⟨r, h.1⟩ k) * W (ix3 0 k ⟨n, h.2⟩) else 0

/-- The product with a block of 256 columns of the weights holds the columns from the block's first on. -/
theorem mm_ld (o : ℕ) (inb) (r : Fin 512) (j : Fin 256) :
    mm hn (View.ld (Val := Elt Ideal) (e' := .bf16) W (Rect.unit ![0, 0, o] ![1, 2048, 256] inb)) r j = pcol hn W r.val (o + j.val) := by
  have hb : o + 256 ≤ 4480 := inb 2
  unfold mm pcol
  rw [dif_pos ⟨r.isLt, by omega⟩]
  refine Finset.sum_congr rfl fun k _ => ?_
  refine congrArg (hn (ix2 r k) * ·) ?_
  exact View.ld_unit_apply_of (Val := Elt Ideal) (e := .bf16) W _ _ inb (ix3 (0 : Fin 1) k j) (ix3 (0 : Fin 1) k ⟨o + j.val, by omega⟩) (by intro a; fin_cases a <;> simp)

/-- The same of the block of 128 columns that holds the gates. -/
theorem gm_ld (o : ℕ) (inb) (b : FVec Ideal S1x128 .f32) (r : Fin 512) (j : Fin 128) :
    gm hn (View.ld (Val := Elt Ideal) (e' := .bf16) W (Rect.unit ![0, 0, o] ![1, 2048, 128] inb)) b r j = pcol hn W r.val (o + j.val) + b (ix2 0 j) := by
  have hb : o + 128 ≤ 4480 := inb 2
  unfold gm pcol
  rw [dif_pos ⟨r.isLt, by omega⟩]
  refine congrArg (· + b (ix2 0 j)) ?_
  refine Finset.sum_congr rfl fun k _ => ?_
  refine congrArg (hn (ix2 r k) * ·) ?_
  exact View.ld_unit_apply_of (Val := Elt Ideal) (e := .bf16) W _ _ inb (ix3 (0 : Fin 1) k j) (ix3 (0 : Fin 1) k ⟨o + j.val, by omega⟩) (by intro a; fin_cases a <;> simp)

/-- A slice of one row of the taps. -/
theorem tap_ld (x8 : FVec Ideal S4x1024 .f32) (d o : ℕ) (inb) (j : Fin 128) (hd : d < 4) (ho : o + j.val < 1024) :
    (show FVec Ideal S1x128 .f32 from View.ld (Val := Elt Ideal) (e' := .f32) x8 (Rect.unit ![d, o] ![1, 128] inb)) (ix2 0 j) = x8 (ix2 ⟨d, hd⟩ ⟨o + j.val, ho⟩) :=
  View.ld_unit_apply_of (Val := Elt Ideal) (e := .f32) x8 _ _ inb (ix2 (0 : Fin 1) j) (ix2 ⟨d, hd⟩ ⟨o + j.val, ho⟩) (by intro a; fin_cases a <;> simp)

/-- The rotation in the tables' form is the rotation of the head. -/
theorem rotK_eq (p : ℕ → EReal) (co si : ℕ → EReal) (x : Fin 128 → EReal) (c s1 s2 : FVec Ideal S512x128 .f32) (r : Fin 512) (j : Fin 128)
    (o l : ℕ) (ho : o % 128 = 0) (hl : l = o + j.val) (hx : ∀ n : Fin 128, x n = p (o + n.val))
    (h4 : ∀ j : Fin 128, c (ix2 r j) = if j.val % 64 < 16 then co (j.val % 8) else 1)
    (h5 : ∀ j : Fin 128, s1 (ix2 r j) = if j.val % 64 < 8 then -si (j.val % 8) else 0)
    (h6 : ∀ j : Fin 128, s2 (ix2 r j) = if 8 ≤ j.val % 64 ∧ j.val % 64 < 16 then si (j.val % 8) else 0) :
    rotK x c s1 s2 r j = rot p co si l := by
  have hj := j.isLt
  unfold rotK rot rotv
  rw [h4, h5, h6, hx, hx, hx]
  dsimp only
  have el : l % 64 = j.val % 64 := by omega
  have e0 : l / 64 * 64 + l % 64 = o + j.val := by omega
  rw [e0]
  by_cases a : j.val % 64 < 8
  · rw [if_pos (by omega), if_pos a, if_neg (by omega), if_pos (by omega), mul_zero, add_zero, mul_neg, ← sub_eq_add_neg]
    have e1 : l % 64 = j.val % 8 := by omega
    have e2 : l / 64 * 64 + (l % 64 + 8) = o + (j.val + 8) % 128 := by omega
    rw [e2, e1]
  · by_cases b : j.val % 64 < 16
    · rw [if_pos (by omega), if_neg a, if_pos (by omega), if_neg (by omega), if_pos (by omega), mul_zero, add_zero]
      have e1 : l % 64 - 8 = j.val % 8 := by omega
      have e2 : o + (j.val + 120) % 128 = l / 64 * 64 + j.val % 8 := by omega
      rw [e1, e2]
    · rw [if_neg (by omega), if_neg a, if_neg (by omega), if_neg (by omega), if_neg (by omega), mul_zero, mul_zero, add_zero, add_zero, mul_one]

/-- The convolution in the order the kernel adds is the problem's. -/
theorem convV_eq (v : FVec Ideal S520x128 .f32) (w3 w0 w1 w2 : FVec Ideal S1x128 .f32) (r : Fin 512) (j : Fin 128) (q : ℕ → EReal) (w : ℕ → EReal)
    (hv : ∀ d : Fin 4, v (ix2 ⟨8 + r.val - d.val, by omega⟩ j) = q d.val)
    (h0 : w0 (ix2 0 j) = w 0) (h1 : w1 (ix2 0 j) = w 1) (h2 : w2 (ix2 0 j) = w 2) (h3 : w3 (ix2 0 j) = w 3) :
    convV v w3 w0 w1 w2 r j = silu (conv q w) := by
  have e0 : v (ix2 ⟨8 + r.val, by omega⟩ j) = q 0 := hv 0
  have e1 : v (ix2 ⟨7 + r.val, by omega⟩ j) = q 1 := (congrArg (fun i => v (ix2 i j)) (Fin.ext (by first | (simp; done) | (simp; omega)))).trans (hv 1)
  have e2 : v (ix2 ⟨6 + r.val, by omega⟩ j) = q 2 := (congrArg (fun i => v (ix2 i j)) (Fin.ext (by first | (simp; done) | (simp; omega)))).trans (hv 2)
  have e3 : v (ix2 ⟨5 + r.val, by omega⟩ j) = q 3 := (congrArg (fun i => v (ix2 i j)) (Fin.ext (by first | (simp; done) | (simp; omega)))).trans (hv 3)
  unfold convV conv
  rw [e0, e1, e2, e3, h0, h1, h2, h3]
  congr 1
  rw [add_comm (q 3 * w 0 + q 2 * w 1 + q 1 * w 2) (q 0 * w 3), ← add_assoc, ← add_assoc]

/-- Five hundred and twelve as a float word. -/
theorem word_512 : Ideal.ofBits .f32 0x44000000#32 = ((512 : ℝ) : EReal) := by
  simp [Ideal.ofBits, Ideal.ieee, -EReal.coe_mul]; norm_num

/-- Its reciprocal as a float word. -/
theorem word_inv512 : Ideal.ofBits .f32 0x3B000000#32 = ((1 / 512 : ℝ) : EReal) := by
  simp [Ideal.ofBits, Ideal.ieee, -EReal.coe_mul]; norm_num

/-- The mean of 512 terms taken by two halves. -/
theorem mean_eq (f : ℕ → EReal) :
    (∑ i : Fin 256, f i.val + ∑ i : Fin 256, f (256 + i.val)) * Ideal.ofBits .f32 0x3B000000#32
      = Ideal.div (∑ j : Fin 512, f j.val) (Ideal.ofBits .f32 0x44000000#32) := by
  rw [word_512, word_inv512, Ideal.div_coe (by norm_num)]
  refine congrArg (· * _) ?_
  exact (Fin.sum_univ_add (a := 256) (b := 256) (fun j : Fin 512 => f j.val)).symm

end Cert.Kernel3Ideal.InProj

end
-- ==== Proof.InProj.Out.lean ====
/- One point's output block: the 25 stores, and the projected row they hold. -/
module

public import proofs.«01_k».proof.Proof.InProj.Parts
public import Idealize.ShloMosaic.Lib.Ring

@[expose] public section

set_option maxRecDepth 16384

noncomputable section

namespace Cert.Kernel3Ideal.InProj

open Idealize.ShloMosaic Idealize.ShloMosaic.TcCoe Idealize.SL.Sem
open Cert.Kernel3Ideal Cert.Kernel3Ideal.Gen Cert.InMath Cert.FfnMath

variable (hn : FVec Ideal S512x2048 .bf16) (W : FVec Ideal S1x2048x4480 .bf16)

/-- The stores of a point into its output block, the last first: `hn` the normalised tile, `W` the weights, `x4 x5 x6` the
    rotation's tables, `x7` the gain of the gated part, `x8` the taps, `V0` to `V7` the windows the convolution reads. -/
def pieces (x4 x5 x6 : FVec Ideal S512x128 .f32) (x7 : FVec Ideal S1x512 .f32) (x8 : FVec Ideal S4x1024 .f32)
    (V0 V1 V2 V3 V4 V5 V6 V7 : FVec Ideal S520x128 .f32) : List (View.Piece (Elt Ideal) S512x4352 .bf16) :=
      [⟨Rect.unit ![0, 4096] ![512, 256] inb_S512x4352_S512x256_0_4096, k0_pay74 (F := Ideal) hn (k0_pay72 (F := Ideal) (View.ld (Val := Elt Ideal) (e' := .bf16) W (Rect.unit ![0, 0, 4096] ![1, 2048, 256] inb_S1x2048x4480_S1x2048x256_0_0_4096))) (constant (F := Ideal) S512x256 .f32 0x00000000#32)⟩,
        ⟨Rect.unit ![0, 3840] ![512, 256] inb_S512x4352_S512x256_0_3840, k0_pay73 (F := Ideal) (k0_pay71 (F := Ideal) hn (View.ld (Val := Elt Ideal) (e' := .bf16) W (Rect.unit ![0, 0, 3840] ![1, 2048, 256] inb_S1x2048x4480_S1x2048x256_0_0_3840)))⟩,
        ⟨Rect.unit ![0, 3584] ![512, 256] inb_S512x4352_S512x256_0_3584, k0_pay70 (F := Ideal) hn (View.ld (Val := Elt Ideal) (e' := .bf16) W (Rect.unit ![0, 0, 3584] ![1, 2048, 256] inb_S1x2048x4480_S1x2048x256_0_0_3584))⟩,
        ⟨Rect.unit ![0, 3328] ![512, 256] inb_S512x4352_S512x256_0_3328, k0_pay69 (F := Ideal) hn (View.ld (Val := Elt Ideal) (e' := .bf16) W (Rect.unit ![0, 0, 3328] ![1, 2048, 256] inb_S1x2048x4480_S1x2048x256_0_0_3328))⟩,
        ⟨Rect.unit ![0, 2176] ![512, 128] inb_S512x4352_S512x128_0_2176, k0_pay68 (F := Ideal) (k0_pay65 (F := Ideal) hn (View.ld (Val := Elt Ideal) (e' := .bf16) W (Rect.unit ![0, 0, 2048] ![1, 2048, 256] inb_S1x2048x4480_S1x2048x256_0_0_2048)))⟩,
        ⟨Rect.unit ![0, 2048] ![512, 128] inb_S512x4352_S512x128_0_2048, k0_pay67 (F := Ideal) (k0_pay66 (F := Ideal) hn (k0_pay45 (F := Ideal) x4) (k0_pay46 (F := Ideal) x5) (k0_pay47 (F := Ideal) x6) (View.ld (Val := Elt Ideal) (e' := .bf16) W (Rect.unit ![0, 0, 2048] ![1, 2048, 256] inb_S1x2048x4480_S1x2048x256_0_0_2048)))⟩,
        ⟨Rect.unit ![0, 1920] ![512, 128] inb_S512x4352_S512x128_0_1920, k0_pay64 (F := Ideal) (k0_pay45 (F := Ideal) x4) (k0_pay46 (F := Ideal) x5) (k0_pay47 (F := Ideal) x6) (k0_pay51 (F := Ideal) hn (View.ld (Val := Elt Ideal) (e' := .bf16) W (Rect.unit ![0, 0, 1792] ![1, 2048, 256] inb_S1x2048x4480_S1x2048x256_0_0_1792)))⟩,
        ⟨Rect.unit ![0, 1792] ![512, 128] inb_S512x4352_S512x128_0_1792, k0_pay63 (F := Ideal) (k0_pay47 (F := Ideal) x6) (k0_pay60 (F := Ideal) (k0_pay51 (F := Ideal) hn (View.ld (Val := Elt Ideal) (e' := .bf16) W (Rect.unit ![0, 0, 1792] ![1, 2048, 256] inb_S1x2048x4480_S1x2048x256_0_0_1792)))) (k0_pay61 (F := Ideal) (k0_pay45 (F := Ideal) x4) (k0_pay51 (F := Ideal) hn (View.ld (Val := Elt Ideal) (e' := .bf16) W (Rect.unit ![0, 0, 1792] ![1, 2048, 256] inb_S1x2048x4480_S1x2048x256_0_0_1792)))) (k0_pay62 (F := Ideal) (k0_pay46 (F := Ideal) x5) (k0_pay51 (F := Ideal) hn (View.ld (Val := Elt Ideal) (e' := .bf16) W (Rect.unit ![0, 0, 1792] ![1, 2048, 256] inb_S1x2048x4480_S1x2048x256_0_0_1792))))⟩,
        ⟨Rect.unit ![0, 1664] ![512, 128] inb_S512x4352_S512x128_0_1664, k0_pay59 (F := Ideal) (k0_pay45 (F := Ideal) x4) (k0_pay46 (F := Ideal) x5) (k0_pay47 (F := Ideal) x6) (k0_pay50 (F := Ideal) hn (View.ld (Val := Elt Ideal) (e' := .bf16) W (Rect.unit ![0, 0, 1536] ![1, 2048, 256] inb_S1x2048x4480_S1x2048x256_0_0_1536)))⟩,
        ⟨Rect.unit ![0, 1536] ![512, 128] inb_S512x4352_S512x128_0_1536, k0_pay58 (F := Ideal) (k0_pay45 (F := Ideal) x4) (k0_pay46 (F := Ideal) x5) (k0_pay47 (F := Ideal) x6) (k0_pay50 (F := Ideal) hn (View.ld (Val := Elt Ideal) (e' := .bf16) W (Rect.unit ![0, 0, 1536] ![1, 2048, 256] inb_S1x2048x4480_S1x2048x256_0_0_1536)))⟩,
        ⟨Rect.unit ![0, 1408] ![512, 128] inb_S512x4352_S512x128_0_1408, k0_pay57 (F := Ideal) (k0_pay56 (F := Ideal) (k0_pay45 (F := Ideal) x4) (k0_pay46 (F := Ideal) x5) (k0_pay47 (F := Ideal) x6) (k0_pay49 (F := Ideal) hn (View.ld (Val := Elt Ideal) (e' := .bf16) W (Rect.unit ![0, 0, 1280] ![1, 2048, 256] inb_S1x2048x4480_S1x2048x256_0_0_1280)))) (Scalar.ofBits .f32 0x3E38AA3B#32)⟩,
        ⟨Rect.unit ![0, 1280] ![512, 128] inb_S512x4352_S512x128_0_1280, k0_pay55 (F := Ideal) (k0_pay45 (F := Ideal) x4) (k0_pay46 (F := Ideal) x5) (k0_pay47 (F := Ideal) x6) (k0_pay49 (F := Ideal) hn (View.ld (Val := Elt Ideal) (e' := .bf16) W (Rect.unit ![0, 0, 1280] ![1, 2048, 256] inb_S1x2048x4480_S1x2048x256_0_0_1280)))⟩,
        ⟨Rect.unit ![0, 1152] ![512, 128] inb_S512x4352_S512x128_0_1152, k0_pay54 (F := Ideal) (k0_pay45 (F := Ideal) x4) (k0_pay46 (F := Ideal) x5) (k0_pay47 (F := Ideal) x6) (k0_pay48 (F := Ideal) hn (View.ld (Val := Elt Ideal) (e' := .bf16) W (Rect.unit ![0, 0, 1024] ![1, 2048, 256] inb_S1x2048x4480_S1x2048x256_0_0_1024)))⟩,
        ⟨Rect.unit ![0, 1024] ![512, 128] inb_S512x4352_S512x128_0_1024, k0_pay53 (F := Ideal) (k0_pay52 (F := Ideal) hn x4 x5 x6 (View.ld (Val := Elt Ideal) (e' := .bf16) W (Rect.unit ![0, 0, 1024] ![1, 2048, 256] inb_S1x2048x4480_S1x2048x256_0_0_1024)))⟩,
        ⟨Rect.unit ![0, 512] ![512, 512] inb_S512x4352_S512x512_0_512, k0_pay44 (F := Ideal) (k0_pay43 (F := Ideal) (k0_pay35 (F := Ideal)) (k0_pay36 (F := Ideal) hn (View.ld (Val := Elt Ideal) (e' := .bf16) W (Rect.unit ![0, 0, 512] ![1, 2048, 256] inb_S1x2048x4480_S1x2048x256_0_0_512))) (k0_pay37 (F := Ideal) hn (View.ld (Val := Elt Ideal) (e' := .bf16) W (Rect.unit ![0, 0, 768] ![1, 2048, 256] inb_S1x2048x4480_S1x2048x256_0_0_768))) (k0_pay38 (F := Ideal) hn (View.ld (Val := Elt Ideal) (e' := .bf16) W (Rect.unit ![0, 0, 512] ![1, 2048, 256] inb_S1x2048x4480_S1x2048x256_0_0_512))) ((View.whole cc0_scratch1).readCov [⟨Rect.unit ![0, 256] ![512, 256] inb_S512x512_S512x256_0_256, k0_pay42 (F := Ideal) (k0_pay37 (F := Ideal) hn (View.ld (Val := Elt Ideal) (e' := .bf16) W (Rect.unit ![0, 0, 768] ![1, 2048, 256] inb_S1x2048x4480_S1x2048x256_0_0_768)))⟩,
        ⟨Rect.unit ![0, 0] ![512, 256] inb_S512x512_S512x256_0_0, k0_pay40 (F := Ideal) (k0_pay36 (F := Ideal) hn (View.ld (Val := Elt Ideal) (e' := .bf16) W (Rect.unit ![0, 0, 512] ![1, 2048, 256] inb_S1x2048x4480_S1x2048x256_0_0_512))) (k0_pay38 (F := Ideal) hn (View.ld (Val := Elt Ideal) (e' := .bf16) W (Rect.unit ![0, 0, 512] ![1, 2048, 256] inb_S1x2048x4480_S1x2048x256_0_0_512)))⟩] (Rect.unit ![0, 0] ![512, 512] inb_S512x512_S512x512_0_0).toLoadRect) x7)⟩,
        ⟨Rect.unit ![0, 256] ![512, 256] inb_S512x4352_S512x256_0_256, k0_pay34 (F := Ideal) (k0_pay31 (F := Ideal) hn (View.ld (Val := Elt Ideal) (e' := .bf16) W (Rect.unit ![0, 0, 256] ![1, 2048, 256] inb_S1x2048x4480_S1x2048x256_0_0_256)))⟩,
        ⟨Rect.unit ![0, 0] ![512, 256] inb_S512x4352_S512x256_0_0, k0_pay33 (F := Ideal) (k0_pay30 (F := Ideal) hn (View.ld (Val := Elt Ideal) (e' := .bf16) W (Rect.unit ![0, 0, 0] ![1, 2048, 256] inb_S1x2048x4480_S1x2048x256_0_0_0))) (k0_pay32 (F := Ideal) hn (View.ld (Val := Elt Ideal) (e' := .bf16) W (Rect.unit ![0, 0, 0] ![1, 2048, 256] inb_S1x2048x4480_S1x2048x256_0_0_0)))⟩,
        ⟨Rect.unit ![0, 3200] ![512, 128] inb_S512x4352_S512x128_0_3200, k0_pay28 (F := Ideal) V7 (k0_pay26 (F := Ideal) V7 (View.ld (Val := Elt Ideal) (e' := .f32) x8 (Rect.unit ![3, 896] ![1, 128] inb_S4x1024_S1x128_3_896)) (View.ld (Val := Elt Ideal) (e' := .f32) x8 (Rect.unit ![0, 896] ![1, 128] inb_S4x1024_S1x128_0_896))) (k0_pay27 (F := Ideal) V7) (View.ld (Val := Elt Ideal) (e' := .f32) x8 (Rect.unit ![1, 896] ![1, 128] inb_S4x1024_S1x128_1_896)) (View.ld (Val := Elt Ideal) (e' := .f32) x8 (Rect.unit ![2, 896] ![1, 128] inb_S4x1024_S1x128_2_896))⟩,
        ⟨Rect.unit ![0, 3072] ![512, 128] inb_S512x4352_S512x128_0_3072, k0_pay25 (F := Ideal) V6 (k0_pay22 (F := Ideal) V6 (View.ld (Val := Elt Ideal) (e' := .f32) x8 (Rect.unit ![3, 768] ![1, 128] inb_S4x1024_S1x128_3_768))) (k0_pay23 (F := Ideal) V6) (k0_pay24 (F := Ideal) (View.ld (Val := Elt Ideal) (e' := .f32) x8 (Rect.unit ![0, 768] ![1, 128] inb_S4x1024_S1x128_0_768))) (View.ld (Val := Elt Ideal) (e' := .f32) x8 (Rect.unit ![1, 768] ![1, 128] inb_S4x1024_S1x128_1_768)) (View.ld (Val := Elt Ideal) (e' := .f32) x8 (Rect.unit ![2, 768] ![1, 128] inb_S4x1024_S1x128_2_768))⟩,
        ⟨Rect.unit ![0, 2944] ![512, 128] inb_S512x4352_S512x128_0_2944, k0_pay20 (F := Ideal) V5 (k0_pay18 (F := Ideal) V5 (View.ld (Val := Elt Ideal) (e' := .f32) x8 (Rect.unit ![3, 640] ![1, 128] inb_S4x1024_S1x128_3_640))) (k0_pay19 (F := Ideal) V5) (View.ld (Val := Elt Ideal) (e' := .f32) x8 (Rect.unit ![0, 640] ![1, 128] inb_S4x1024_S1x128_0_640)) (View.ld (Val := Elt Ideal) (e' := .f32) x8 (Rect.unit ![1, 640] ![1, 128] inb_S4x1024_S1x128_1_640)) (View.ld (Val := Elt Ideal) (e' := .f32) x8 (Rect.unit ![2, 640] ![1, 128] inb_S4x1024_S1x128_2_640))⟩,
        ⟨Rect.unit ![0, 2816] ![512, 128] inb_S512x4352_S512x128_0_2816, k0_pay17 (F := Ideal) V4 (k0_pay16 (F := Ideal) V4) (View.ld (Val := Elt Ideal) (e' := .f32) x8 (Rect.unit ![3, 512] ![1, 128] inb_S4x1024_S1x128_3_512)) (View.ld (Val := Elt Ideal) (e' := .f32) x8 (Rect.unit ![0, 512] ![1, 128] inb_S4x1024_S1x128_0_512)) (View.ld (Val := Elt Ideal) (e' := .f32) x8 (Rect.unit ![1, 512] ![1, 128] inb_S4x1024_S1x128_1_512)) (View.ld (Val := Elt Ideal) (e' := .f32) x8 (Rect.unit ![2, 512] ![1, 128] inb_S4x1024_S1x128_2_512))⟩,
        ⟨Rect.unit ![0, 2688] ![512, 128] inb_S512x4352_S512x128_0_2688, k0_pay14 (F := Ideal) V3 (k0_pay13 (F := Ideal) V3) (View.ld (Val := Elt Ideal) (e' := .f32) x8 (Rect.unit ![3, 384] ![1, 128] inb_S4x1024_S1x128_3_384)) (View.ld (Val := Elt Ideal) (e' := .f32) x8 (Rect.unit ![0, 384] ![1, 128] inb_S4x1024_S1x128_0_384)) (View.ld (Val := Elt Ideal) (e' := .f32) x8 (Rect.unit ![1, 384] ![1, 128] inb_S4x1024_S1x128_1_384)) (View.ld (Val := Elt Ideal) (e' := .f32) x8 (Rect.unit ![2, 384] ![1, 128] inb_S4x1024_S1x128_2_384))⟩,
        ⟨Rect.unit ![0, 2560] ![512, 128] inb_S512x4352_S512x128_0_2560, k0_pay12 (F := Ideal) V2 (View.ld (Val := Elt Ideal) (e' := .f32) x8 (Rect.unit ![3, 256] ![1, 128] inb_S4x1024_S1x128_3_256)) (View.ld (Val := Elt Ideal) (e' := .f32) x8 (Rect.unit ![0, 256] ![1, 128] inb_S4x1024_S1x128_0_256)) (View.ld (Val := Elt Ideal) (e' := .f32) x8 (Rect.unit ![1, 256] ![1, 128] inb_S4x1024_S1x128_1_256)) (View.ld (Val := Elt Ideal) (e' := .f32) x8 (Rect.unit ![2, 256] ![1, 128] inb_S4x1024_S1x128_2_256))⟩,
        ⟨Rect.unit ![0, 2432] ![512, 128] inb_S512x4352_S512x128_0_2432, k0_pay10 (F := Ideal) V1 (View.ld (Val := Elt Ideal) (e' := .f32) x8 (Rect.unit ![3, 128] ![1, 128] inb_S4x1024_S1x128_3_128)) (View.ld (Val := Elt Ideal) (e' := .f32) x8 (Rect.unit ![0, 128] ![1, 128] inb_S4x1024_S1x128_0_128)) (View.ld (Val := Elt Ideal) (e' := .f32) x8 (Rect.unit ![1, 128] ![1, 128] inb_S4x1024_S1x128_1_128)) (View.ld (Val := Elt Ideal) (e' := .f32) x8 (Rect.unit ![2, 128] ![1, 128] inb_S4x1024_S1x128_2_128))⟩,
        ⟨Rect.unit ![0, 2304] ![512, 128] inb_S512x4352_S512x128_0_2304, k0_pay9 (F := Ideal) V0 (View.ld (Val := Elt Ideal) (e' := .f32) x8 (Rect.unit ![3, 0] ![1, 128] inb_S4x1024_S1x128_3_0)) (View.ld (Val := Elt Ideal) (e' := .f32) x8 (Rect.unit ![0, 0] ![1, 128] inb_S4x1024_S1x128_0_0)) (View.ld (Val := Elt Ideal) (e' := .f32) x8 (Rect.unit ![1, 0] ![1, 128] inb_S4x1024_S1x128_1_0)) (View.ld (Val := Elt Ideal) (e' := .f32) x8 (Rect.unit ![2, 0] ![1, 128] inb_S4x1024_S1x128_2_0))⟩]

/-- The gated part's scratch reads back the gelus of its two halves. -/
theorem scr_apply (r : Fin 512) (j : Fin 512) :
    (View.readCov (Val := Elt Ideal) (View.whole cc0_scratch1) [⟨Rect.unit ![0, 256] ![512, 256] inb_S512x512_S512x256_0_256, k0_pay42 (F := Ideal) (k0_pay37 (F := Ideal) hn (View.ld (Val := Elt Ideal) (e' := .bf16) W (Rect.unit ![0, 0, 768] ![1, 2048, 256] inb_S1x2048x4480_S1x2048x256_0_0_768)))⟩,
        ⟨Rect.unit ![0, 0] ![512, 256] inb_S512x512_S512x256_0_0, k0_pay40 (F := Ideal) (k0_pay36 (F := Ideal) hn (View.ld (Val := Elt Ideal) (e' := .bf16) W (Rect.unit ![0, 0, 512] ![1, 2048, 256] inb_S1x2048x4480_S1x2048x256_0_0_512))) (k0_pay38 (F := Ideal) hn (View.ld (Val := Elt Ideal) (e' := .bf16) W (Rect.unit ![0, 0, 512] ![1, 2048, 256] inb_S1x2048x4480_S1x2048x256_0_0_512)))⟩] (Rect.unit (s := S512x512) ![0, 0] ![512, 512] inb_S512x512_S512x512_0_0).toLoadRect : FVec Ideal S512x512 .f32) (ix2 r j) = gelu (pcol hn W r.val (512 + j.val)) := by
  rw [View.readCov_eq_canon']
  have e : (Rect.unit (s := S512x512) ![0, 0] ![512, 512] inb_S512x512_S512x512_0_0).toLoadRect.idx (ix2 r j) = ix2 r j := by
    funext a; fin_cases a <;> exact Fin.ext (by simp [Rect.toLoadRect, LoadRect.idx])
  refine (congrArg (View.canon _) e).trans ?_
  canon_tiles x h
  all_goals
    obtain ⟨a, i, rfl⟩ : ∃ (a : Fin _) (b : Fin _), x = ix2 a b := ⟨x 0, x 1, by funext d; fin_cases d <;> rfl⟩
    obtain rfl : r = a := Fin.ext h0
  case piece0 =>
    have hl : j.val = 256 + i.val := h1
    rw [pay42_apply, pay37_apply, mm_ld, geluK_eq, hl]
    exact congrArg _ (congrArg _ (by omega))
  case piece1 =>
    have hl : j.val = i.val := h1
    rw [pay40_apply, mm_ld, geluK_eq, hl]

/-- Row `r` of the output block is the projected row. -/
theorem out_apply (x4 x5 x6 : FVec Ideal S512x128 .f32) (x7 : FVec Ideal S1x512 .f32) (x8 : FVec Ideal S4x1024 .f32)
    (V0 V1 V2 V3 V4 V5 V6 V7 : FVec Ideal S520x128 .f32) (r : Fin 512) (l : Fin 4352) (q : ℕ → ℕ → EReal) (co si : ℕ → EReal)
    (h4 : ∀ j : Fin 128, x4 (ix2 r j) = if j.val % 64 < 16 then co (j.val % 8) else 1)
    (h5 : ∀ j : Fin 128, x5 (ix2 r j) = if j.val % 64 < 8 then -si (j.val % 8) else 0)
    (h6 : ∀ j : Fin 128, x6 (ix2 r j) = if 8 ≤ j.val % 64 ∧ j.val % 64 < 16 then si (j.val % 8) else 0)
    (v0 : ∀ (d : Fin 4) (j : Fin 128), V0 (ix2 ⟨8 + r.val - d.val, by omega⟩ j) = q d.val (2304 + j.val))
    (v1 : ∀ (d : Fin 4) (j : Fin 128), V1 (ix2 ⟨8 + r.val - d.val, by omega⟩ j) = q d.val (2432 + j.val))
    (v2 : ∀ (d : Fin 4) (j : Fin 128), V2 (ix2 ⟨8 + r.val - d.val, by omega⟩ j) = q d.val (2560 + j.val))
    (v3 : ∀ (d : Fin 4) (j : Fin 128), V3 (ix2 ⟨8 + r.val - d.val, by omega⟩ j) = q d.val (2688 + j.val))
    (v4 : ∀ (d : Fin 4) (j : Fin 128), V4 (ix2 ⟨8 + r.val - d.val, by omega⟩ j) = q d.val (2816 + j.val))
    (v5 : ∀ (d : Fin 4) (j : Fin 128), V5 (ix2 ⟨8 + r.val - d.val, by omega⟩ j) = q d.val (2944 + j.val))
    (v6 : ∀ (d : Fin 4) (j : Fin 128), V6 (ix2 ⟨8 + r.val - d.val, by omega⟩ j) = q d.val (3072 + j.val))
    (v7 : ∀ (d : Fin 4) (j : Fin 128), V7 (ix2 ⟨8 + r.val - d.val, by omega⟩ j) = q d.val (3200 + j.val)) :
    View.canon (pieces hn W x4 x5 x6 x7 x8 V0 V1 V2 V3 V4 V5 V6 V7) (ix2 r l)
      = entry (pcol hn W r.val) q co si (fun j => x7 (ix2 0 ⟨j % 512, by omega⟩)) (fun t j => x8 (ix2 ⟨t % 4, by omega⟩ ⟨j % 1024, by omega⟩))
        (Ideal.ofBits .f32 0x3E38AA3B#32) (Ideal.ofBits .f32 0x3DB504F3#32) l.val := by
  have hcov := View.cover_of_tiledBy (pieces hn W x4 x5 x6 x7 x8 V0 V1 V2 V3 V4 V5 V6 V7) ![512, 128] (by sl_kernel_rfl) (ix2 r l)
  unfold pieces at hcov ⊢
  canon_tiles x h using hcov
  all_goals clear hcov
  all_goals
    obtain ⟨a, j, rfl⟩ : ∃ (a : Fin _) (b : Fin _), x = ix2 a b := ⟨x 0, x 1, by funext d; fin_cases d <;> rfl⟩
    obtain rfl : r = a := Fin.ext h0
  case piece0 =>
    have hl : l.val = 4096 + j.val := h1
    rw [pay74_apply, mm_ld, entry8 (by omega), hl]
  case piece1 =>
    have hl : l.val = 3840 + j.val := h1
    rw [pay73_apply, pay71_apply, mm_ld, entry8 (by omega), hl]
  case piece2 =>
    have hl : l.val = 3584 + j.val := h1
    rw [pay70_apply, mm_ld, entry7 (by omega) (by omega), hl]
  case piece3 =>
    have hl : l.val = 3328 + j.val := h1
    rw [pay69_apply, mm_ld, entry7 (by omega) (by omega), hl]
  case piece4 =>
    have hl : l.val = 2176 + j.val := h1
    rw [pay68_apply]
    simp only [hi]
    rw [pay65_apply, mm_ld, entry4 (by omega) (by omega), hl]
    exact congrArg _ (by show 2048 + (128 + j.val) = 2176 + j.val; omega)
  case piece5 =>
    have hl : l.val = 2048 + j.val := h1
    rw [pay67_apply, rotK_eq (pcol hn W r.val) co si _ x4 x5 x6 r j 2048 l.val (by norm_num) hl ?_ h4 h5 h6, entry3 (by omega) (by omega)]
    intro n
    simp only [lo, hi]
    rw [mm_ld]
  case piece6 =>
    have hl : l.val = 1920 + j.val := h1
    rw [pay64_apply, rotK_eq (pcol hn W r.val) co si _ x4 x5 x6 r j 1920 l.val (by norm_num) hl ?_ h4 h5 h6, entry2 (by omega) (by omega)]
    intro n
    simp only [lo, hi]
    rw [pay51_apply, mm_ld]
    exact congrArg _ (by show 1792 + (128 + n.val) = 1920 + n.val; omega)
  case piece7 =>
    have hl : l.val = 1792 + j.val := h1
    rw [pay63_apply, rotK_eq (pcol hn W r.val) co si _ x4 x5 x6 r j 1792 l.val (by norm_num) hl ?_ h4 h5 h6, entry2 (by omega) (by omega)]
    intro n
    simp only [lo, hi]
    rw [pay51_apply, mm_ld]
  case piece8 =>
    have hl : l.val = 1664 + j.val := h1
    rw [pay59_apply, rotK_eq (pcol hn W r.val) co si _ x4 x5 x6 r j 1664 l.val (by norm_num) hl ?_ h4 h5 h6, entry2 (by omega) (by omega)]
    intro n
    simp only [lo, hi]
    rw [pay50_apply, mm_ld]
    exact congrArg _ (by show 1536 + (128 + n.val) = 1664 + n.val; omega)
  case piece9 =>
    have hl : l.val = 1536 + j.val := h1
    rw [pay58_apply, rotK_eq (pcol hn W r.val) co si _ x4 x5 x6 r j 1536 l.val (by norm_num) hl ?_ h4 h5 h6, entry2 (by omega) (by omega)]
    intro n
    simp only [lo, hi]
    rw [pay50_apply, mm_ld]
  case piece10 =>
    have hl : l.val = 1408 + j.val := h1
    rw [pay57_apply, rotK_eq (pcol hn W r.val) co si _ x4 x5 x6 r j 1408 l.val (by norm_num) hl ?_ h4 h5 h6, entry2 (by omega) (by omega)]
    intro n
    simp only [lo, hi]
    rw [pay49_apply, mm_ld]
    exact congrArg _ (by show 1280 + (128 + n.val) = 1408 + n.val; omega)
  case piece11 =>
    have hl : l.val = 1280 + j.val := h1
    rw [pay55_apply, rotK_eq (pcol hn W r.val) co si _ x4 x5 x6 r j 1280 l.val (by norm_num) hl ?_ h4 h5 h6, entry2 (by omega) (by omega)]
    intro n
    simp only [lo, hi]
    rw [pay49_apply, mm_ld]
  case piece12 =>
    have hl : l.val = 1152 + j.val := h1
    rw [pay54_apply, rotK_eq (pcol hn W r.val) co si _ x4 x5 x6 r j 1152 l.val (by norm_num) hl ?_ h4 h5 h6, entry2 (by omega) (by omega)]
    intro n
    simp only [lo, hi]
    rw [pay48_apply, mm_ld]
    exact congrArg _ (by show 1024 + (128 + n.val) = 1152 + n.val; omega)
  case piece13 =>
    have hl : l.val = 1024 + j.val := h1
    rw [pay53_apply, rotK_eq (pcol hn W r.val) co si _ x4 x5 x6 r j 1024 l.val (by norm_num) hl ?_ h4 h5 h6, entry2 (by omega) (by omega)]
    intro n
    simp only [lo, hi]
    rw [mm_ld]
  case piece14 =>
    have hl : l.val = 512 + j.val := h1
    refine (pay44_apply hn _ _ _ _ r j).trans ?_
    rw [scr_apply, entry1 (by omega) (by omega)]
    simp only [mm_ld, geluK_eq]
    have e : ∀ i : Fin 256, 768 + i.val = 512 + (256 + i.val) := fun i => by omega
    simp only [e]
    have em := mean_eq (fun n => gelu (pcol hn W r.val (512 + n)) * gelu (pcol hn W r.val (512 + n)))
    rw [em, hl]
    refine congrArg (_ * ·) (congrArg (fun i => x7 (ix2 0 i)) (Fin.ext ?_))
    show j.val = (512 + j.val - 512) % 512
    omega
  case piece15 =>
    have hl : l.val = 256 + j.val := h1
    rw [pay34_apply, pay31_apply, mm_ld, geluK_eq, entry0 (by omega), hl]
  case piece16 =>
    have hl : l.val = j.val := h1
    rw [pay33_apply, mm_ld, geluK_eq, entry0 (by omega), hl, Nat.zero_add]
  case piece17 =>
    have hl : l.val = 3200 + j.val := h1
    rw [pay28_apply, convV_eq V7 _ _ _ _ r j (fun d => q d l.val) (fun t => x8 (ix2 ⟨t % 4, by omega⟩ ⟨(l.val - 2304) % 1024, by omega⟩))
      (fun d => (v7 d j).trans (by rw [hl])) (by exact (tap_ld x8 0 896 _ j (by omega) (by omega)).trans (congrArg (fun i => x8 (ix2 0 i)) (Fin.ext (by show 896 + j.val = (l.val - 2304) % 1024; omega))))
      (by exact (tap_ld x8 1 896 _ j (by omega) (by omega)).trans (congrArg (fun i => x8 (ix2 1 i)) (Fin.ext (by show 896 + j.val = (l.val - 2304) % 1024; omega))))
      (by exact (tap_ld x8 2 896 _ j (by omega) (by omega)).trans (congrArg (fun i => x8 (ix2 2 i)) (Fin.ext (by show 896 + j.val = (l.val - 2304) % 1024; omega))))
      (by exact (tap_ld x8 3 896 _ j (by omega) (by omega)).trans (congrArg (fun i => x8 (ix2 3 i)) (Fin.ext (by show 896 + j.val = (l.val - 2304) % 1024; omega)))), entry6 (by omega) (by omega)]
  case piece18 =>
    have hl : l.val = 3072 + j.val := h1
    rw [pay25_apply, convV_eq V6 _ _ _ _ r j (fun d => q d l.val) (fun t => x8 (ix2 ⟨t % 4, by omega⟩ ⟨(l.val - 2304) % 1024, by omega⟩))
      (fun d => (v6 d j).trans (by rw [hl])) (by exact (tap_ld x8 0 768 _ j (by omega) (by omega)).trans (congrArg (fun i => x8 (ix2 0 i)) (Fin.ext (by show 768 + j.val = (l.val - 2304) % 1024; omega))))
      (by exact (tap_ld x8 1 768 _ j (by omega) (by omega)).trans (congrArg (fun i => x8 (ix2 1 i)) (Fin.ext (by show 768 + j.val = (l.val - 2304) % 1024; omega))))
      (by exact (tap_ld x8 2 768 _ j (by omega) (by omega)).trans (congrArg (fun i => x8 (ix2 2 i)) (Fin.ext (by show 768 + j.val = (l.val - 2304) % 1024; omega))))
      (by exact (tap_ld x8 3 768 _ j (by omega) (by omega)).trans (congrArg (fun i => x8 (ix2 3 i)) (Fin.ext (by show 768 + j.val = (l.val - 2304) % 1024; omega)))), entry6 (by omega) (by omega)]
  case piece19 =>
    have hl : l.val = 2944 + j.val := h1
    rw [pay20_apply, convV_eq V5 _ _ _ _ r j (fun d => q d l.val) (fun t => x8 (ix2 ⟨t % 4, by omega⟩ ⟨(l.val - 2304) % 1024, by omega⟩))
      (fun d => (v5 d j).trans (by rw [hl])) (by exact (tap_ld x8 0 640 _ j (by omega) (by omega)).trans (congrArg (fun i => x8 (ix2 0 i)) (Fin.ext (by show 640 + j.val = (l.val - 2304) % 1024; omega))))
      (by exact (tap_ld x8 1 640 _ j (by omega) (by omega)).trans (congrArg (fun i => x8 (ix2 1 i)) (Fin.ext (by show 640 + j.val = (l.val - 2304) % 1024; omega))))
      (by exact (tap_ld x8 2 640 _ j (by omega) (by omega)).trans (congrArg (fun i => x8 (ix2 2 i)) (Fin.ext (by show 640 + j.val = (l.val - 2304) % 1024; omega))))
      (by exact (tap_ld x8 3 640 _ j (by omega) (by omega)).trans (congrArg (fun i => x8 (ix2 3 i)) (Fin.ext (by show 640 + j.val = (l.val - 2304) % 1024; omega)))), entry6 (by omega) (by omega)]
  case piece20 =>
    have hl : l.val = 2816 + j.val := h1
    rw [pay17_apply, convV_eq V4 _ _ _ _ r j (fun d => q d l.val) (fun t => x8 (ix2 ⟨t % 4, by omega⟩ ⟨(l.val - 2304) % 1024, by omega⟩))
      (fun d => (v4 d j).trans (by rw [hl])) (by exact (tap_ld x8 0 512 _ j (by omega) (by omega)).trans (congrArg (fun i => x8 (ix2 0 i)) (Fin.ext (by show 512 + j.val = (l.val - 2304) % 1024; omega))))
      (by exact (tap_ld x8 1 512 _ j (by omega) (by omega)).trans (congrArg (fun i => x8 (ix2 1 i)) (Fin.ext (by show 512 + j.val = (l.val - 2304) % 1024; omega))))
      (by exact (tap_ld x8 2 512 _ j (by omega) (by omega)).trans (congrArg (fun i => x8 (ix2 2 i)) (Fin.ext (by show 512 + j.val = (l.val - 2304) % 1024; omega))))
      (by exact (tap_ld x8 3 512 _ j (by omega) (by omega)).trans (congrArg (fun i => x8 (ix2 3 i)) (Fin.ext (by show 512 + j.val = (l.val - 2304) % 1024; omega)))), entry6 (by omega) (by omega)]
  case piece21 =>
    have hl : l.val = 2688 + j.val := h1
    rw [pay14_apply, convV_eq V3 _ _ _ _ r j (fun d => q d l.val) (fun t => x8 (ix2 ⟨t % 4, by omega⟩ ⟨(l.val - 2304) % 1024, by omega⟩))
      (fun d => (v3 d j).trans (by rw [hl])) (by exact (tap_ld x8 0 384 _ j (by omega) (by omega)).trans (congrArg (fun i => x8 (ix2 0 i)) (Fin.ext (by show 384 + j.val = (l.val - 2304) % 1024; omega))))
      (by exact (tap_ld x8 1 384 _ j (by omega) (by omega)).trans (congrArg (fun i => x8 (ix2 1 i)) (Fin.ext (by show 384 + j.val = (l.val - 2304) % 1024; omega))))
      (by exact (tap_ld x8 2 384 _ j (by omega) (by omega)).trans (congrArg (fun i => x8 (ix2 2 i)) (Fin.ext (by show 384 + j.val = (l.val - 2304) % 1024; omega))))
      (by exact (tap_ld x8 3 384 _ j (by omega) (by omega)).trans (congrArg (fun i => x8 (ix2 3 i)) (Fin.ext (by show 384 + j.val = (l.val - 2304) % 1024; omega)))), entry5 (by omega) (by omega)]
  case piece22 =>
    have hl : l.val = 2560 + j.val := h1
    rw [pay12_apply, convV_eq V2 _ _ _ _ r j (fun d => q d l.val) (fun t => x8 (ix2 ⟨t % 4, by omega⟩ ⟨(l.val - 2304) % 1024, by omega⟩))
      (fun d => (v2 d j).trans (by rw [hl])) (by exact (tap_ld x8 0 256 _ j (by omega) (by omega)).trans (congrArg (fun i => x8 (ix2 0 i)) (Fin.ext (by show 256 + j.val = (l.val - 2304) % 1024; omega))))
      (by exact (tap_ld x8 1 256 _ j (by omega) (by omega)).trans (congrArg (fun i => x8 (ix2 1 i)) (Fin.ext (by show 256 + j.val = (l.val - 2304) % 1024; omega))))
      (by exact (tap_ld x8 2 256 _ j (by omega) (by omega)).trans (congrArg (fun i => x8 (ix2 2 i)) (Fin.ext (by show 256 + j.val = (l.val - 2304) % 1024; omega))))
      (by exact (tap_ld x8 3 256 _ j (by omega) (by omega)).trans (congrArg (fun i => x8 (ix2 3 i)) (Fin.ext (by show 256 + j.val = (l.val - 2304) % 1024; omega)))), entry5 (by omega) (by omega)]
  case piece23 =>
    have hl : l.val = 2432 + j.val := h1
    rw [pay10_apply, convV_eq V1 _ _ _ _ r j (fun d => q d l.val) (fun t => x8 (ix2 ⟨t % 4, by omega⟩ ⟨(l.val - 2304) % 1024, by omega⟩))
      (fun d => (v1 d j).trans (by rw [hl])) (by exact (tap_ld x8 0 128 _ j (by omega) (by omega)).trans (congrArg (fun i => x8 (ix2 0 i)) (Fin.ext (by show 128 + j.val = (l.val - 2304) % 1024; omega))))
      (by exact (tap_ld x8 1 128 _ j (by omega) (by omega)).trans (congrArg (fun i => x8 (ix2 1 i)) (Fin.ext (by show 128 + j.val = (l.val - 2304) % 1024; omega))))
      (by exact (tap_ld x8 2 128 _ j (by omega) (by omega)).trans (congrArg (fun i => x8 (ix2 2 i)) (Fin.ext (by show 128 + j.val = (l.val - 2304) % 1024; omega))))
      (by exact (tap_ld x8 3 128 _ j (by omega) (by omega)).trans (congrArg (fun i => x8 (ix2 3 i)) (Fin.ext (by show 128 + j.val = (l.val - 2304) % 1024; omega)))), entry5 (by omega) (by omega)]
  case piece24 =>
    have hl : l.val = 2304 + j.val := h1
    rw [pay9_apply, convV_eq V0 _ _ _ _ r j (fun d => q d l.val) (fun t => x8 (ix2 ⟨t % 4, by omega⟩ ⟨(l.val - 2304) % 1024, by omega⟩))
      (fun d => (v0 d j).trans (by rw [hl])) (by exact (tap_ld x8 0 0 _ j (by omega) (by omega)).trans (congrArg (fun i => x8 (ix2 0 i)) (Fin.ext (by show 0 + j.val = (l.val - 2304) % 1024; omega))))
      (by exact (tap_ld x8 1 0 _ j (by omega) (by omega)).trans (congrArg (fun i => x8 (ix2 1 i)) (Fin.ext (by show 0 + j.val = (l.val - 2304) % 1024; omega))))
      (by exact (tap_ld x8 2 0 _ j (by omega) (by omega)).trans (congrArg (fun i => x8 (ix2 2 i)) (Fin.ext (by show 0 + j.val = (l.val - 2304) % 1024; omega))))
      (by exact (tap_ld x8 3 0 _ j (by omega) (by omega)).trans (congrArg (fun i => x8 (ix2 3 i)) (Fin.ext (by show 0 + j.val = (l.val - 2304) % 1024; omega)))), entry5 (by omega) (by omega)]

end Cert.Kernel3Ideal.InProj

end
-- ==== Proof.InProj.Conv.lean ====
/- The convolution's buffer: eight carried rows in front of the tile's projected rows, as the point's stores leave it. -/
module

public import proofs.«01_k».proof.Proof.InProj.Parts
public import Idealize.ShloMosaic.Lib.WritesUnit

@[expose] public section

set_option maxRecDepth 16384

noncomputable section

namespace Cert.Kernel3Ideal.InProj

open Idealize.ShloMosaic Idealize.ShloMosaic.TcCoe Idealize.SL.Sem
open Cert.Kernel3Ideal Cert.Kernel3Ideal.Gen Cert.InMath Cert.FfnMath

variable (hn : FVec Ideal S512x2048 .bf16) (W : FVec Ideal S1x2048x4480 .bf16)

/-- The buffer after some stores over contents `f`. -/
def rd (f : (View.whole cc0_scratch0).ty.Contents (Elt Ideal)) (L : List (View.Piece (Elt Ideal) S520x1024 .f32)) : FVec Ideal S520x1024 .f32 :=
  View.read (Elt Ideal) (View.whole cc0_scratch0) ((View.whole cc0_scratch0).writes (Elt Ideal) f L)

/-- A store of 256 columns of the tile's rows leaves the first eight rows. -/
theorem rd_lo (f : (View.whole cc0_scratch0).ty.Contents (Elt Ideal)) (o : ℕ) (inb) (w : FVec Ideal S512x256 .f32) (L) (rr : Fin 520) (c : Fin 1024) (h : rr.val < 8) :
    rd f ((⟨Rect.unit (s := S520x1024) ![8, o] ![512, 256] inb, w⟩ : View.Piece (Elt Ideal) S520x1024 .f32) :: L) (ix2 rr c) = rd f L (ix2 rr c) :=
  View.read_writes_cons_unit_of_not_mem (View.whole cc0_scratch0) f inb w L (ix2 rr c) rfl (0 : Fin 2) (Or.inl h)

/-- Where such a store holds an entry, it reads the stored block. -/
theorem rd_hi (f : (View.whole cc0_scratch0).ty.Contents (Elt Ideal)) (o : ℕ) (inb) (w : FVec Ideal S512x256 .f32) (L) (rr : Fin 520) (c : Fin 1024) (h : 8 ≤ rr.val)
    (h1 : o ≤ c.val) (h2 : c.val < o + 256) (hw : ∀ (r : Fin 512) (j : Fin 256), w (ix2 r j) = pcol hn W r.val (2304 + o + j.val)) :
    rd f ((⟨Rect.unit (s := S520x1024) ![8, o] ![512, 256] inb, w⟩ : View.Piece (Elt Ideal) S520x1024 .f32) :: L) (ix2 rr c) = pcol hn W (rr.val - 8) (2304 + c.val) := by
  have hr := rr.isLt
  refine (View.read_writes_cons_unit_of_mem (View.whole cc0_scratch0) f inb w L (ix2 rr c) (ix2 (⟨rr.val - 8, by omega⟩ : Fin 512) (⟨c.val - o, by omega⟩ : Fin 256)) rfl ?_).trans ?_
  · intro a
    fin_cases a
    · show rr.val = 8 + (rr.val - 8); omega
    · show c.val = o + (c.val - o); omega
  · rw [hw]
    refine congrArg (pcol hn W (rr.val - 8)) ?_
    show 2304 + o + (c.val - o) = 2304 + c.val
    omega

/-- The buffer's entry: `cr` the carried rows, then the tile's projected rows. -/
def cv (cr : ℕ → ℕ → EReal) (rr c : ℕ) : EReal := if rr < 8 then cr rr c else pcol hn W (rr - 8) (2304 + c)

/-- The rows of zeros the first point of a sequence stores. -/
def zlist : List (View.Piece (Elt Ideal) S520x1024 .f32) :=
  [⟨Rect.unit ![0, 0] ![8, 1024] inb_S520x1024_S8x1024_0_0, k0_pay163 (F := Ideal)⟩]

/-- They read zero. -/
theorem rd_zero (f : (View.whole cc0_scratch0).ty.Contents (Elt Ideal)) (rr : Fin 520) (c : Fin 1024) (h : rr.val < 8) : rd f zlist (ix2 rr c) = 0 := by
  refine (View.read_writes_cons_unit_of_mem (View.whole cc0_scratch0) f inb_S520x1024_S8x1024_0_0 (k0_pay163 (F := Ideal)) [] (ix2 rr c) (ix2 (⟨rr.val, h⟩ : Fin 8) c) rfl ?_).trans ?_
  · intro a
    fin_cases a
    · exact (Nat.zero_add _).symm
    · exact (Nat.zero_add _).symm
  · pointwise [k0_pay163]

/-- The stores up to the block of columns 0 to 255, over the stores `L`. -/
def bl0 (L : List (View.Piece (Elt Ideal) S520x1024 .f32)) : List (View.Piece (Elt Ideal) S520x1024 .f32) :=
  ⟨Rect.unit ![8, 0] ![512, 256] inb_S520x1024_S512x256_8_0, k0_pay8 (F := Ideal) (k0_pay3 (F := Ideal) hn (View.ld (Val := Elt Ideal) (e' := .bf16) W (Rect.unit ![0, 0, 2304] ![1, 2048, 256] inb_S1x2048x4480_S1x2048x256_0_0_2304)))⟩ :: L

/-- The stored block holds the projected columns. -/
theorem bw0 (r : Fin 512) (j : Fin 256) : (k0_pay8 (F := Ideal) (k0_pay3 (F := Ideal) hn (View.ld (Val := Elt Ideal) (e' := .bf16) W (Rect.unit ![0, 0, 2304] ![1, 2048, 256] inb_S1x2048x4480_S1x2048x256_0_0_2304))) : FVec Ideal S512x256 .f32) (ix2 r j) = pcol hn W r.val (2304 + 0 + j.val) := by
  have e := mm_ld hn W 2304 inb_S1x2048x4480_S1x2048x256_0_0_2304 r j
  pointwise [k0_pay8, pay3_apply]
  exact e

/-- The first eight rows stay. -/
theorem bl0_lo (f : (View.whole cc0_scratch0).ty.Contents (Elt Ideal)) (L) (rr : Fin 520) (c : Fin 1024) (h : rr.val < 8) : rd f (bl0 hn W L) (ix2 rr c) = rd f L (ix2 rr c) := by
  unfold bl0
  rw [rd_lo f 0 _ _ _ rr c h]

/-- The block's columns hold the buffer's entries. -/
theorem bl0_apply (f : (View.whole cc0_scratch0).ty.Contents (Elt Ideal)) (L) (cr : ℕ → ℕ → EReal) (hcr : ∀ (rr : Fin 520) (c : Fin 1024), rr.val < 8 → rd f L (ix2 rr c) = cr rr.val c.val)
    (rr : Fin 520) (c : Fin 1024) (h1 : 0 ≤ c.val) (h2 : c.val < 256) : rd f (bl0 hn W L) (ix2 rr c) = cv hn W cr rr.val c.val := by
  by_cases h : rr.val < 8
  · rw [bl0_lo _ _ _ _ _ _ h, hcr _ _ h, cv, if_pos h]
  · unfold bl0
    rw [rd_hi hn W f 0 _ _ _ rr c (by omega) h1 h2 (bw0 hn W), cv, if_neg h]

/-- The stores up to the block of columns 256 to 511, over the stores `L`. -/
def bl1 (L : List (View.Piece (Elt Ideal) S520x1024 .f32)) : List (View.Piece (Elt Ideal) S520x1024 .f32) :=
  ⟨Rect.unit ![8, 256] ![512, 256] inb_S520x1024_S512x256_8_256, k0_pay11 (F := Ideal) (k0_pay4 (F := Ideal) hn (View.ld (Val := Elt Ideal) (e' := .bf16) W (Rect.unit ![0, 0, 2560] ![1, 2048, 256] inb_S1x2048x4480_S1x2048x256_0_0_2560)))⟩ :: (bl0 hn W L)

/-- The stored block holds the projected columns. -/
theorem bw1 (r : Fin 512) (j : Fin 256) : (k0_pay11 (F := Ideal) (k0_pay4 (F := Ideal) hn (View.ld (Val := Elt Ideal) (e' := .bf16) W (Rect.unit ![0, 0, 2560] ![1, 2048, 256] inb_S1x2048x4480_S1x2048x256_0_0_2560))) : FVec Ideal S512x256 .f32) (ix2 r j) = pcol hn W r.val (2304 + 256 + j.val) := by
  have e := mm_ld hn W 2560 inb_S1x2048x4480_S1x2048x256_0_0_2560 r j
  pointwise [k0_pay11, pay4_apply]
  exact e

/-- The first eight rows stay. -/
theorem bl1_lo (f : (View.whole cc0_scratch0).ty.Contents (Elt Ideal)) (L) (rr : Fin 520) (c : Fin 1024) (h : rr.val < 8) : rd f (bl1 hn W L) (ix2 rr c) = rd f L (ix2 rr c) := by
  unfold bl1
  rw [rd_lo f 256 _ _ _ rr c h, bl0_lo _ _ _ _ _ _ h]

/-- The block's columns hold the buffer's entries. -/
theorem bl1_apply (f : (View.whole cc0_scratch0).ty.Contents (Elt Ideal)) (L) (cr : ℕ → ℕ → EReal) (hcr : ∀ (rr : Fin 520) (c : Fin 1024), rr.val < 8 → rd f L (ix2 rr c) = cr rr.val c.val)
    (rr : Fin 520) (c : Fin 1024) (h1 : 256 ≤ c.val) (h2 : c.val < 512) : rd f (bl1 hn W L) (ix2 rr c) = cv hn W cr rr.val c.val := by
  by_cases h : rr.val < 8
  · rw [bl1_lo _ _ _ _ _ _ h, hcr _ _ h, cv, if_pos h]
  · unfold bl1
    rw [rd_hi hn W f 256 _ _ _ rr c (by omega) h1 h2 (bw1 hn W), cv, if_neg h]

/-- The stores up to the block of columns 512 to 767, over the stores `L`. -/
def bl2 (L : List (View.Piece (Elt Ideal) S520x1024 .f32)) : List (View.Piece (Elt Ideal) S520x1024 .f32) :=
  ⟨Rect.unit ![8, 512] ![512, 256] inb_S520x1024_S512x256_8_512, k0_pay15 (F := Ideal) (k0_pay5 (F := Ideal) hn (View.ld (Val := Elt Ideal) (e' := .bf16) W (Rect.unit ![0, 0, 2816] ![1, 2048, 256] inb_S1x2048x4480_S1x2048x256_0_0_2816)))⟩ :: (bl1 hn W L)

/-- The stored block holds the projected columns. -/
theorem bw2 (r : Fin 512) (j : Fin 256) : (k0_pay15 (F := Ideal) (k0_pay5 (F := Ideal) hn (View.ld (Val := Elt Ideal) (e' := .bf16) W (Rect.unit ![0, 0, 2816] ![1, 2048, 256] inb_S1x2048x4480_S1x2048x256_0_0_2816))) : FVec Ideal S512x256 .f32) (ix2 r j) = pcol hn W r.val (2304 + 512 + j.val) := by
  have e := mm_ld hn W 2816 inb_S1x2048x4480_S1x2048x256_0_0_2816 r j
  pointwise [k0_pay15, pay5_apply]
  exact e

/-- The first eight rows stay. -/
theorem bl2_lo (f : (View.whole cc0_scratch0).ty.Contents (Elt Ideal)) (L) (rr : Fin 520) (c : Fin 1024) (h : rr.val < 8) : rd f (bl2 hn W L) (ix2 rr c) = rd f L (ix2 rr c) := by
  unfold bl2
  rw [rd_lo f 512 _ _ _ rr c h, bl1_lo _ _ _ _ _ _ h]

/-- The block's columns hold the buffer's entries. -/
theorem bl2_apply (f : (View.whole cc0_scratch0).ty.Contents (Elt Ideal)) (L) (cr : ℕ → ℕ → EReal) (hcr : ∀ (rr : Fin 520) (c : Fin 1024), rr.val < 8 → rd f L (ix2 rr c) = cr rr.val c.val)
    (rr : Fin 520) (c : Fin 1024) (h1 : 512 ≤ c.val) (h2 : c.val < 768) : rd f (bl2 hn W L) (ix2 rr c) = cv hn W cr rr.val c.val := by
  by_cases h : rr.val < 8
  · rw [bl2_lo _ _ _ _ _ _ h, hcr _ _ h, cv, if_pos h]
  · unfold bl2
    rw [rd_hi hn W f 512 _ _ _ rr c (by omega) h1 h2 (bw2 hn W), cv, if_neg h]

/-- The stores up to the block of columns 768 to 1023, over the stores `L`. -/
def bl3 (L : List (View.Piece (Elt Ideal) S520x1024 .f32)) : List (View.Piece (Elt Ideal) S520x1024 .f32) :=
  ⟨Rect.unit ![8, 768] ![512, 256] inb_S520x1024_S512x256_8_768, k0_pay21 (F := Ideal) (k0_pay7 (F := Ideal) hn (k0_pay6 (F := Ideal) (View.ld (Val := Elt Ideal) (e' := .bf16) W (Rect.unit ![0, 0, 3072] ![1, 2048, 256] inb_S1x2048x4480_S1x2048x256_0_0_3072))) (constant (F := Ideal) S512x256 .f32 0x00000000#32))⟩ :: (bl2 hn W L)

/-- The stored block holds the projected columns. -/
theorem bw3 (r : Fin 512) (j : Fin 256) : (k0_pay21 (F := Ideal) (k0_pay7 (F := Ideal) hn (k0_pay6 (F := Ideal) (View.ld (Val := Elt Ideal) (e' := .bf16) W (Rect.unit ![0, 0, 3072] ![1, 2048, 256] inb_S1x2048x4480_S1x2048x256_0_0_3072))) (constant (F := Ideal) S512x256 .f32 0x00000000#32)) : FVec Ideal S512x256 .f32) (ix2 r j) = pcol hn W r.val (2304 + 768 + j.val) := by
  have e := mm_ld hn W 3072 inb_S1x2048x4480_S1x2048x256_0_0_3072 r j
  pointwise [k0_pay21, pay7_apply]
  exact e

/-- The first eight rows stay. -/
theorem bl3_lo (f : (View.whole cc0_scratch0).ty.Contents (Elt Ideal)) (L) (rr : Fin 520) (c : Fin 1024) (h : rr.val < 8) : rd f (bl3 hn W L) (ix2 rr c) = rd f L (ix2 rr c) := by
  unfold bl3
  rw [rd_lo f 768 _ _ _ rr c h, bl2_lo _ _ _ _ _ _ h]

/-- The block's columns hold the buffer's entries. -/
theorem bl3_apply (f : (View.whole cc0_scratch0).ty.Contents (Elt Ideal)) (L) (cr : ℕ → ℕ → EReal) (hcr : ∀ (rr : Fin 520) (c : Fin 1024), rr.val < 8 → rd f L (ix2 rr c) = cr rr.val c.val)
    (rr : Fin 520) (c : Fin 1024) (h1 : 768 ≤ c.val) (h2 : c.val < 1024) : rd f (bl3 hn W L) (ix2 rr c) = cv hn W cr rr.val c.val := by
  by_cases h : rr.val < 8
  · rw [bl3_lo _ _ _ _ _ _ h, hcr _ _ h, cv, if_pos h]
  · unfold bl3
    rw [rd_hi hn W f 768 _ _ _ rr c (by omega) h1 h2 (bw3 hn W), cv, if_neg h]

/-- The window of columns 0 to 127 over carried rows. -/
def wb0 (f : (View.whole cc0_scratch0).ty.Contents (Elt Ideal)) : FVec Ideal S520x128 .f32 :=
  View.ld (Val := Elt Ideal) (e' := .f32) (View.read (Elt Ideal) (View.whole cc0_scratch0) ((View.whole cc0_scratch0).writes (Elt Ideal) f (bl0 hn W []))) (Rect.unit (s := S520x1024) ![0, 0] ![520, 128] inb_S520x1024_S520x128_0_0)

/-- The window of the same columns over rows of zeros. -/
def wa0 : FVec Ideal S520x128 .f32 :=
  (View.whole cc0_scratch0).readCov (Val := Elt Ideal) (bl0 hn W zlist) (Rect.unit (s := S520x1024) ![0, 0] ![520, 128] inb_S520x1024_S520x128_0_0).toLoadRect

/-- It holds the buffer's entries. -/
theorem wb0_apply (f : (View.whole cc0_scratch0).ty.Contents (Elt Ideal)) (cr : ℕ → ℕ → EReal) (hcr : ∀ (rr : Fin 520) (c : Fin 1024), rr.val < 8 → rd f [] (ix2 rr c) = cr rr.val c.val)
    (rr : Fin 520) (j : Fin 128) : wb0 hn W f (ix2 rr j) = cv hn W cr rr.val (0 + j.val) :=
  (View.ld_unit_apply_of (Val := Elt Ideal) (e := .f32) (rd f (bl0 hn W [])) ![0, 0] ![520, 128] inb_S520x1024_S520x128_0_0 (ix2 rr j) (ix2 rr ⟨0 + j.val, by omega⟩) (by intro a; fin_cases a <;> simp)).trans
    (bl0_apply hn W f [] cr hcr rr ⟨0 + j.val, by omega⟩ (by show _ ≤ 0 + j.val; omega) (by show 0 + j.val < _; omega))

/-- So does the other, its first rows zero. -/
theorem wa0_apply (rr : Fin 520) (j : Fin 128) : wa0 hn W (ix2 rr j) = cv hn W (fun _ _ => 0) rr.val (0 + j.val) :=
  (View.ld_unit_apply_of (Val := Elt Ideal) (e := .f32) (rd (View.whole cc0_scratch0).junk (bl0 hn W zlist)) ![0, 0] ![520, 128] inb_S520x1024_S520x128_0_0 (ix2 rr j) (ix2 rr ⟨0 + j.val, by omega⟩) (by intro a; fin_cases a <;> simp)).trans
    (bl0_apply hn W _ zlist (fun _ _ => 0) (fun rr c h => rd_zero _ rr c h) rr ⟨0 + j.val, by omega⟩ (by show _ ≤ 0 + j.val; omega) (by show 0 + j.val < _; omega))

/-- The window of columns 128 to 255 over carried rows. -/
def wb1 (f : (View.whole cc0_scratch0).ty.Contents (Elt Ideal)) : FVec Ideal S520x128 .f32 :=
  View.ld (Val := Elt Ideal) (e' := .f32) (View.read (Elt Ideal) (View.whole cc0_scratch0) ((View.whole cc0_scratch0).writes (Elt Ideal) f (bl0 hn W []))) (Rect.unit (s := S520x1024) ![0, 128] ![520, 128] inb_S520x1024_S520x128_0_128)

/-- The window of the same columns over rows of zeros. -/
def wa1 : FVec Ideal S520x128 .f32 :=
  (View.whole cc0_scratch0).readCov (Val := Elt Ideal) (bl0 hn W zlist) (Rect.unit (s := S520x1024) ![0, 128] ![520, 128] inb_S520x1024_S520x128_0_128).toLoadRect

/-- It holds the buffer's entries. -/
theorem wb1_apply (f : (View.whole cc0_scratch0).ty.Contents (Elt Ideal)) (cr : ℕ → ℕ → EReal) (hcr : ∀ (rr : Fin 520) (c : Fin 1024), rr.val < 8 → rd f [] (ix2 rr c) = cr rr.val c.val)
    (rr : Fin 520) (j : Fin 128) : wb1 hn W f (ix2 rr j) = cv hn W cr rr.val (128 + j.val) :=
  (View.ld_unit_apply_of (Val := Elt Ideal) (e := .f32) (rd f (bl0 hn W [])) ![0, 128] ![520, 128] inb_S520x1024_S520x128_0_128 (ix2 rr j) (ix2 rr ⟨128 + j.val, by omega⟩) (by intro a; fin_cases a <;> simp)).trans
    (bl0_apply hn W f [] cr hcr rr ⟨128 + j.val, by omega⟩ (by show _ ≤ 128 + j.val; omega) (by show 128 + j.val < _; omega))

/-- So does the other, its first rows zero. -/
theorem wa1_apply (rr : Fin 520) (j : Fin 128) : wa1 hn W (ix2 rr j) = cv hn W (fun _ _ => 0) rr.val (128 + j.val) :=
  (View.ld_unit_apply_of (Val := Elt Ideal) (e := .f32) (rd (View.whole cc0_scratch0).junk (bl0 hn W zlist)) ![0, 128] ![520, 128] inb_S520x1024_S520x128_0_128 (ix2 rr j) (ix2 rr ⟨128 + j.val, by omega⟩) (by intro a; fin_cases a <;> simp)).trans
    (bl0_apply hn W _ zlist (fun _ _ => 0) (fun rr c h => rd_zero _ rr c h) rr ⟨128 + j.val, by omega⟩ (by show _ ≤ 128 + j.val; omega) (by show 128 + j.val < _; omega))

/-- The window of columns 256 to 383 over carried rows. -/
def wb2 (f : (View.whole cc0_scratch0).ty.Contents (Elt Ideal)) : FVec Ideal S520x128 .f32 :=
  View.ld (Val := Elt Ideal) (e' := .f32) (View.read (Elt Ideal) (View.whole cc0_scratch0) ((View.whole cc0_scratch0).writes (Elt Ideal) f (bl1 hn W []))) (Rect.unit (s := S520x1024) ![0, 256] ![520, 128] inb_S520x1024_S520x128_0_256)

/-- The window of the same columns over rows of zeros. -/
def wa2 : FVec Ideal S520x128 .f32 :=
  (View.whole cc0_scratch0).readCov (Val := Elt Ideal) (bl1 hn W zlist) (Rect.unit (s := S520x1024) ![0, 256] ![520, 128] inb_S520x1024_S520x128_0_256).toLoadRect

/-- It holds the buffer's entries. -/
theorem wb2_apply (f : (View.whole cc0_scratch0).ty.Contents (Elt Ideal)) (cr : ℕ → ℕ → EReal) (hcr : ∀ (rr : Fin 520) (c : Fin 1024), rr.val < 8 → rd f [] (ix2 rr c) = cr rr.val c.val)
    (rr : Fin 520) (j : Fin 128) : wb2 hn W f (ix2 rr j) = cv hn W cr rr.val (256 + j.val) :=
  (View.ld_unit_apply_of (Val := Elt Ideal) (e := .f32) (rd f (bl1 hn W [])) ![0, 256] ![520, 128] inb_S520x1024_S520x128_0_256 (ix2 rr j) (ix2 rr ⟨256 + j.val, by omega⟩) (by intro a; fin_cases a <;> simp)).trans
    (bl1_apply hn W f [] cr hcr rr ⟨256 + j.val, by omega⟩ (by show _ ≤ 256 + j.val; omega) (by show 256 + j.val < _; omega))

/-- So does the other, its first rows zero. -/
theorem wa2_apply (rr : Fin 520) (j : Fin 128) : wa2 hn W (ix2 rr j) = cv hn W (fun _ _ => 0) rr.val (256 + j.val) :=
  (View.ld_unit_apply_of (Val := Elt Ideal) (e := .f32) (rd (View.whole cc0_scratch0).junk (bl1 hn W zlist)) ![0, 256] ![520, 128] inb_S520x1024_S520x128_0_256 (ix2 rr j) (ix2 rr ⟨256 + j.val, by omega⟩) (by intro a; fin_cases a <;> simp)).trans
    (bl1_apply hn W _ zlist (fun _ _ => 0) (fun rr c h => rd_zero _ rr c h) rr ⟨256 + j.val, by omega⟩ (by show _ ≤ 256 + j.val; omega) (by show 256 + j.val < _; omega))

/-- The window of columns 384 to 511 over carried rows. -/
def wb3 (f : (View.whole cc0_scratch0).ty.Contents (Elt Ideal)) : FVec Ideal S520x128 .f32 :=
  View.ld (Val := Elt Ideal) (e' := .f32) (View.read (Elt Ideal) (View.whole cc0_scratch0) ((View.whole cc0_scratch0).writes (Elt Ideal) f (bl1 hn W []))) (Rect.unit (s := S520x1024) ![0, 384] ![520, 128] inb_S520x1024_S520x128_0_384)

/-- The window of the same columns over rows of zeros. -/
def wa3 : FVec Ideal S520x128 .f32 :=
  (View.whole cc0_scratch0).readCov (Val := Elt Ideal) (bl1 hn W zlist) (Rect.unit (s := S520x1024) ![0, 384] ![520, 128] inb_S520x1024_S520x128_0_384).toLoadRect

/-- It holds the buffer's entries. -/
theorem wb3_apply (f : (View.whole cc0_scratch0).ty.Contents (Elt Ideal)) (cr : ℕ → ℕ → EReal) (hcr : ∀ (rr : Fin 520) (c : Fin 1024), rr.val < 8 → rd f [] (ix2 rr c) = cr rr.val c.val)
    (rr : Fin 520) (j : Fin 128) : wb3 hn W f (ix2 rr j) = cv hn W cr rr.val (384 + j.val) :=
  (View.ld_unit_apply_of (Val := Elt Ideal) (e := .f32) (rd f (bl1 hn W [])) ![0, 384] ![520, 128] inb_S520x1024_S520x128_0_384 (ix2 rr j) (ix2 rr ⟨384 + j.val, by omega⟩) (by intro a; fin_cases a <;> simp)).trans
    (bl1_apply hn W f [] cr hcr rr ⟨384 + j.val, by omega⟩ (by show _ ≤ 384 + j.val; omega) (by show 384 + j.val < _; omega))

/-- So does the other, its first rows zero. -/
theorem wa3_apply (rr : Fin 520) (j : Fin 128) : wa3 hn W (ix2 rr j) = cv hn W (fun _ _ => 0) rr.val (384 + j.val) :=
  (View.ld_unit_apply_of (Val := Elt Ideal) (e := .f32) (rd (View.whole cc0_scratch0).junk (bl1 hn W zlist)) ![0, 384] ![520, 128] inb_S520x1024_S520x128_0_384 (ix2 rr j) (ix2 rr ⟨384 + j.val, by omega⟩) (by intro a; fin_cases a <;> simp)).trans
    (bl1_apply hn W _ zlist (fun _ _ => 0) (fun rr c h => rd_zero _ rr c h) rr ⟨384 + j.val, by omega⟩ (by show _ ≤ 384 + j.val; omega) (by show 384 + j.val < _; omega))

/-- The window of columns 512 to 639 over carried rows. -/
def wb4 (f : (View.whole cc0_scratch0).ty.Contents (Elt Ideal)) : FVec Ideal S520x128 .f32 :=
  View.ld (Val := Elt Ideal) (e' := .f32) (View.read (Elt Ideal) (View.whole cc0_scratch0) ((View.whole cc0_scratch0).writes (Elt Ideal) f (bl2 hn W []))) (Rect.unit (s := S520x1024) ![0, 512] ![520, 128] inb_S520x1024_S520x128_0_512)

/-- The window of the same columns over rows of zeros. -/
def wa4 : FVec Ideal S520x128 .f32 :=
  (View.whole cc0_scratch0).readCov (Val := Elt Ideal) (bl2 hn W zlist) (Rect.unit (s := S520x1024) ![0, 512] ![520, 128] inb_S520x1024_S520x128_0_512).toLoadRect

/-- It holds the buffer's entries. -/
theorem wb4_apply (f : (View.whole cc0_scratch0).ty.Contents (Elt Ideal)) (cr : ℕ → ℕ → EReal) (hcr : ∀ (rr : Fin 520) (c : Fin 1024), rr.val < 8 → rd f [] (ix2 rr c) = cr rr.val c.val)
    (rr : Fin 520) (j : Fin 128) : wb4 hn W f (ix2 rr j) = cv hn W cr rr.val (512 + j.val) :=
  (View.ld_unit_apply_of (Val := Elt Ideal) (e := .f32) (rd f (bl2 hn W [])) ![0, 512] ![520, 128] inb_S520x1024_S520x128_0_512 (ix2 rr j) (ix2 rr ⟨512 + j.val, by omega⟩) (by intro a; fin_cases a <;> simp)).trans
    (bl2_apply hn W f [] cr hcr rr ⟨512 + j.val, by omega⟩ (by show _ ≤ 512 + j.val; omega) (by show 512 + j.val < _; omega))

/-- So does the other, its first rows zero. -/
theorem wa4_apply (rr : Fin 520) (j : Fin 128) : wa4 hn W (ix2 rr j) = cv hn W (fun _ _ => 0) rr.val (512 + j.val) :=
  (View.ld_unit_apply_of (Val := Elt Ideal) (e := .f32) (rd (View.whole cc0_scratch0).junk (bl2 hn W zlist)) ![0, 512] ![520, 128] inb_S520x1024_S520x128_0_512 (ix2 rr j) (ix2 rr ⟨512 + j.val, by omega⟩) (by intro a; fin_cases a <;> simp)).trans
    (bl2_apply hn W _ zlist (fun _ _ => 0) (fun rr c h => rd_zero _ rr c h) rr ⟨512 + j.val, by omega⟩ (by show _ ≤ 512 + j.val; omega) (by show 512 + j.val < _; omega))

/-- The window of columns 640 to 767 over carried rows. -/
def wb5 (f : (View.whole cc0_scratch0).ty.Contents (Elt Ideal)) : FVec Ideal S520x128 .f32 :=
  View.ld (Val := Elt Ideal) (e' := .f32) (View.read (Elt Ideal) (View.whole cc0_scratch0) ((View.whole cc0_scratch0).writes (Elt Ideal) f (bl2 hn W []))) (Rect.unit (s := S520x1024) ![0, 640] ![520, 128] inb_S520x1024_S520x128_0_640)

/-- The window of the same columns over rows of zeros. -/
def wa5 : FVec Ideal S520x128 .f32 :=
  (View.whole cc0_scratch0).readCov (Val := Elt Ideal) (bl2 hn W zlist) (Rect.unit (s := S520x1024) ![0, 640] ![520, 128] inb_S520x1024_S520x128_0_640).toLoadRect

/-- It holds the buffer's entries. -/
theorem wb5_apply (f : (View.whole cc0_scratch0).ty.Contents (Elt Ideal)) (cr : ℕ → ℕ → EReal) (hcr : ∀ (rr : Fin 520) (c : Fin 1024), rr.val < 8 → rd f [] (ix2 rr c) = cr rr.val c.val)
    (rr : Fin 520) (j : Fin 128) : wb5 hn W f (ix2 rr j) = cv hn W cr rr.val (640 + j.val) :=
  (View.ld_unit_apply_of (Val := Elt Ideal) (e := .f32) (rd f (bl2 hn W [])) ![0, 640] ![520, 128] inb_S520x1024_S520x128_0_640 (ix2 rr j) (ix2 rr ⟨640 + j.val, by omega⟩) (by intro a; fin_cases a <;> simp)).trans
    (bl2_apply hn W f [] cr hcr rr ⟨640 + j.val, by omega⟩ (by show _ ≤ 640 + j.val; omega) (by show 640 + j.val < _; omega))

/-- So does the other, its first rows zero. -/
theorem wa5_apply (rr : Fin 520) (j : Fin 128) : wa5 hn W (ix2 rr j) = cv hn W (fun _ _ => 0) rr.val (640 + j.val) :=
  (View.ld_unit_apply_of (Val := Elt Ideal) (e := .f32) (rd (View.whole cc0_scratch0).junk (bl2 hn W zlist)) ![0, 640] ![520, 128] inb_S520x1024_S520x128_0_640 (ix2 rr j) (ix2 rr ⟨640 + j.val, by omega⟩) (by intro a; fin_cases a <;> simp)).trans
    (bl2_apply hn W _ zlist (fun _ _ => 0) (fun rr c h => rd_zero _ rr c h) rr ⟨640 + j.val, by omega⟩ (by show _ ≤ 640 + j.val; omega) (by show 640 + j.val < _; omega))

/-- The window of columns 768 to 895 over carried rows. -/
def wb6 (f : (View.whole cc0_scratch0).ty.Contents (Elt Ideal)) : FVec Ideal S520x128 .f32 :=
  View.ld (Val := Elt Ideal) (e' := .f32) (View.read (Elt Ideal) (View.whole cc0_scratch0) ((View.whole cc0_scratch0).writes (Elt Ideal) f (bl3 hn W []))) (Rect.unit (s := S520x1024) ![0, 768] ![520, 128] inb_S520x1024_S520x128_0_768)

/-- The window of the same columns over rows of zeros. -/
def wa6 : FVec Ideal S520x128 .f32 :=
  (View.whole cc0_scratch0).readCov (Val := Elt Ideal) (bl3 hn W zlist) (Rect.unit (s := S520x1024) ![0, 768] ![520, 128] inb_S520x1024_S520x128_0_768).toLoadRect

/-- It holds the buffer's entries. -/
theorem wb6_apply (f : (View.whole cc0_scratch0).ty.Contents (Elt Ideal)) (cr : ℕ → ℕ → EReal) (hcr : ∀ (rr : Fin 520) (c : Fin 1024), rr.val < 8 → rd f [] (ix2 rr c) = cr rr.val c.val)
    (rr : Fin 520) (j : Fin 128) : wb6 hn W f (ix2 rr j) = cv hn W cr rr.val (768 + j.val) :=
  (View.ld_unit_apply_of (Val := Elt Ideal) (e := .f32) (rd f (bl3 hn W [])) ![0, 768] ![520, 128] inb_S520x1024_S520x128_0_768 (ix2 rr j) (ix2 rr ⟨768 + j.val, by omega⟩) (by intro a; fin_cases a <;> simp)).trans
    (bl3_apply hn W f [] cr hcr rr ⟨768 + j.val, by omega⟩ (by show _ ≤ 768 + j.val; omega) (by show 768 + j.val < _; omega))

/-- So does the other, its first rows zero. -/
theorem wa6_apply (rr : Fin 520) (j : Fin 128) : wa6 hn W (ix2 rr j) = cv hn W (fun _ _ => 0) rr.val (768 + j.val) :=
  (View.ld_unit_apply_of (Val := Elt Ideal) (e := .f32) (rd (View.whole cc0_scratch0).junk (bl3 hn W zlist)) ![0, 768] ![520, 128] inb_S520x1024_S520x128_0_768 (ix2 rr j) (ix2 rr ⟨768 + j.val, by omega⟩) (by intro a; fin_cases a <;> simp)).trans
    (bl3_apply hn W _ zlist (fun _ _ => 0) (fun rr c h => rd_zero _ rr c h) rr ⟨768 + j.val, by omega⟩ (by show _ ≤ 768 + j.val; omega) (by show 768 + j.val < _; omega))

/-- The window of columns 896 to 1023 over carried rows. -/
def wb7 (f : (View.whole cc0_scratch0).ty.Contents (Elt Ideal)) : FVec Ideal S520x128 .f32 :=
  View.ld (Val := Elt Ideal) (e' := .f32) (View.read (Elt Ideal) (View.whole cc0_scratch0) ((View.whole cc0_scratch0).writes (Elt Ideal) f (bl3 hn W []))) (Rect.unit (s := S520x1024) ![0, 896] ![520, 128] inb_S520x1024_S520x128_0_896)

/-- The window of the same columns over rows of zeros. -/
def wa7 : FVec Ideal S520x128 .f32 :=
  (View.whole cc0_scratch0).readCov (Val := Elt Ideal) (bl3 hn W zlist) (Rect.unit (s := S520x1024) ![0, 896] ![520, 128] inb_S520x1024_S520x128_0_896).toLoadRect

/-- It holds the buffer's entries. -/
theorem wb7_apply (f : (View.whole cc0_scratch0).ty.Contents (Elt Ideal)) (cr : ℕ → ℕ → EReal) (hcr : ∀ (rr : Fin 520) (c : Fin 1024), rr.val < 8 → rd f [] (ix2 rr c) = cr rr.val c.val)
    (rr : Fin 520) (j : Fin 128) : wb7 hn W f (ix2 rr j) = cv hn W cr rr.val (896 + j.val) :=
  (View.ld_unit_apply_of (Val := Elt Ideal) (e := .f32) (rd f (bl3 hn W [])) ![0, 896] ![520, 128] inb_S520x1024_S520x128_0_896 (ix2 rr j) (ix2 rr ⟨896 + j.val, by omega⟩) (by intro a; fin_cases a <;> simp)).trans
    (bl3_apply hn W f [] cr hcr rr ⟨896 + j.val, by omega⟩ (by show _ ≤ 896 + j.val; omega) (by show 896 + j.val < _; omega))

/-- So does the other, its first rows zero. -/
theorem wa7_apply (rr : Fin 520) (j : Fin 128) : wa7 hn W (ix2 rr j) = cv hn W (fun _ _ => 0) rr.val (896 + j.val) :=
  (View.ld_unit_apply_of (Val := Elt Ideal) (e := .f32) (rd (View.whole cc0_scratch0).junk (bl3 hn W zlist)) ![0, 896] ![520, 128] inb_S520x1024_S520x128_0_896 (ix2 rr j) (ix2 rr ⟨896 + j.val, by omega⟩) (by intro a; fin_cases a <;> simp)).trans
    (bl3_apply hn W _ zlist (fun _ _ => 0) (fun rr c h => rd_zero _ rr c h) rr ⟨896 + j.val, by omega⟩ (by show _ ≤ 896 + j.val; omega) (by show 896 + j.val < _; omega))

end Cert.Kernel3Ideal.InProj

end
-- ==== Proof.InProj.Step.lean ====
/- What one point of the grid leaves: its output block, its row of gates, and the scratches it hands to the next point. -/
module

public import proofs.«01_k».proof.Proof.Gen.Kernel3Ideal.Frame
public import proofs.«01_k».proof.Proof.InProj.Out
public import proofs.«01_k».proof.Proof.InProj.Conv

@[expose] public section

set_option maxRecDepth 16384

noncomputable section

namespace Cert.Kernel3Ideal.InProj

open Idealize.ShloMosaic Idealize.ShloMosaic.TcCoe Idealize.SL.Sem
open Idealize.ShloMosaic.Pipeline (Dat)
open Cert.Kernel3Ideal Cert.Kernel3Ideal.Gen Cert.InMath Cert.FfnMath

section block

variable (hn : FVec Ideal S512x2048 .bf16) (W : FVec Ideal S1x2048x4480 .bf16)
variable (x4 x5 x6 : FVec Ideal S512x128 .f32) (x7 : FVec Ideal S1x512 .f32) (x8 : FVec Ideal S4x1024 .f32)
variable (r : Fin 512) (l : Fin 4352) (q : ℕ → ℕ → EReal) (co si : ℕ → EReal) (cr : ℕ → ℕ → EReal)

/-- The tables hold the rotation's factors. -/
def Tab : Prop :=
  (∀ j : Fin 128, x4 (ix2 r j) = if j.val % 64 < 16 then co (j.val % 8) else 1) ∧ (∀ j : Fin 128, x5 (ix2 r j) = if j.val % 64 < 8 then -si (j.val % 8) else 0)
    ∧ ∀ j : Fin 128, x6 (ix2 r j) = if 8 ≤ j.val % 64 ∧ j.val % 64 < 16 then si (j.val % 8) else 0

/-- The row the output block holds. -/
def outRow : EReal :=
  entry (pcol hn W r.val) q co si (fun j => x7 (ix2 0 ⟨j % 512, by omega⟩)) (fun t j => x8 (ix2 ⟨t % 4, by omega⟩ ⟨j % 1024, by omega⟩))
    (Ideal.ofBits .f32 0x3E38AA3B#32) (Ideal.ofBits .f32 0x3DB504F3#32) l.val

/-- The output block over carried rows. -/
theorem out_b (f : (View.whole cc0_scratch0).ty.Contents (Elt Ideal)) (hf : ∀ (rr : Fin 520) (c : Fin 1024), rr.val < 8 → rd f [] (ix2 rr c) = cr rr.val c.val)
    (ht : Tab x4 x5 x6 r co si) (hq : ∀ (d : Fin 4) (n : ℕ), n < 1024 → cv hn W cr (8 + r.val - d.val) n = q d.val (2304 + n)) :
    View.canon (pieces hn W x4 x5 x6 x7 x8 (wb0 hn W f) (wb1 hn W f) (wb2 hn W f) (wb3 hn W f) (wb4 hn W f) (wb5 hn W f) (wb6 hn W f) (wb7 hn W f)) (ix2 r l)
      = outRow hn W x7 x8 r l q co si :=
  out_apply hn W x4 x5 x6 x7 x8 _ _ _ _ _ _ _ _ r l q co si ht.1 ht.2.1 ht.2.2
    (fun d j => (wb0_apply hn W f cr hf ⟨8 + r.val - d.val, by omega⟩ j).trans ((hq d (0 + j.val) (by omega)).trans (congrArg (q d.val) (by omega))))
    (fun d j => (wb1_apply hn W f cr hf ⟨8 + r.val - d.val, by omega⟩ j).trans ((hq d (128 + j.val) (by omega)).trans (congrArg (q d.val) (by omega))))
    (fun d j => (wb2_apply hn W f cr hf ⟨8 + r.val - d.val, by omega⟩ j).trans ((hq d (256 + j.val) (by omega)).trans (congrArg (q d.val) (by omega))))
    (fun d j => (wb3_apply hn W f cr hf ⟨8 + r.val - d.val, by omega⟩ j).trans ((hq d (384 + j.val) (by omega)).trans (congrArg (q d.val) (by omega))))
    (fun d j => (wb4_apply hn W f cr hf ⟨8 + r.val - d.val, by omega⟩ j).trans ((hq d (512 + j.val) (by omega)).trans (congrArg (q d.val) (by omega))))
    (fun d j => (wb5_apply hn W f cr hf ⟨8 + r.val - d.val, by omega⟩ j).trans ((hq d (640 + j.val) (by omega)).trans (congrArg (q d.val) (by omega))))
    (fun d j => (wb6_apply hn W f cr hf ⟨8 + r.val - d.val, by omega⟩ j).trans ((hq d (768 + j.val) (by omega)).trans (congrArg (q d.val) (by omega))))
    (fun d j => (wb7_apply hn W f cr hf ⟨8 + r.val - d.val, by omega⟩ j).trans ((hq d (896 + j.val) (by omega)).trans (congrArg (q d.val) (by omega))))

/-- The output block over rows of zeros. -/
theorem out_a (ht : Tab x4 x5 x6 r co si) (hq : ∀ (d : Fin 4) (n : ℕ), n < 1024 → cv hn W (fun _ _ => 0) (8 + r.val - d.val) n = q d.val (2304 + n)) :
    View.canon (pieces hn W x4 x5 x6 x7 x8 (wa0 hn W) (wa1 hn W) (wa2 hn W) (wa3 hn W) (wa4 hn W) (wa5 hn W) (wa6 hn W) (wa7 hn W)) (ix2 r l)
      = outRow hn W x7 x8 r l q co si :=
  out_apply hn W x4 x5 x6 x7 x8 _ _ _ _ _ _ _ _ r l q co si ht.1 ht.2.1 ht.2.2
    (fun d j => (wa0_apply hn W ⟨8 + r.val - d.val, by omega⟩ j).trans ((hq d (0 + j.val) (by omega)).trans (congrArg (q d.val) (by omega))))
    (fun d j => (wa1_apply hn W ⟨8 + r.val - d.val, by omega⟩ j).trans ((hq d (128 + j.val) (by omega)).trans (congrArg (q d.val) (by omega))))
    (fun d j => (wa2_apply hn W ⟨8 + r.val - d.val, by omega⟩ j).trans ((hq d (256 + j.val) (by omega)).trans (congrArg (q d.val) (by omega))))
    (fun d j => (wa3_apply hn W ⟨8 + r.val - d.val, by omega⟩ j).trans ((hq d (384 + j.val) (by omega)).trans (congrArg (q d.val) (by omega))))
    (fun d j => (wa4_apply hn W ⟨8 + r.val - d.val, by omega⟩ j).trans ((hq d (512 + j.val) (by omega)).trans (congrArg (q d.val) (by omega))))
    (fun d j => (wa5_apply hn W ⟨8 + r.val - d.val, by omega⟩ j).trans ((hq d (640 + j.val) (by omega)).trans (congrArg (q d.val) (by omega))))
    (fun d j => (wa6_apply hn W ⟨8 + r.val - d.val, by omega⟩ j).trans ((hq d (768 + j.val) (by omega)).trans (congrArg (q d.val) (by omega))))
    (fun d j => (wa7_apply hn W ⟨8 + r.val - d.val, by omega⟩ j).trans ((hq d (896 + j.val) (by omega)).trans (congrArg (q d.val) (by omega))))

end block

variable (m : (ℓ : Loc nD τ sig) → Buf (Elt Ideal) ℓ)

section cases

variable (c : Dev nD) (t : Fin cfg0.N) (r : Fin 512) (l : Fin 4352) (q : ℕ → ℕ → EReal) (co si : ℕ → EReal) (cr : ℕ → ℕ → EReal)

/-- Case B: the output block. -/
theorem o10B (h0 : ¬t.val % 64 = 0) (h1 : ¬t.val % 16 = 0) (h2 : ¬t.val % 2 = 0) (h3 : t.val % 2 = 1)
    (hcr : ∀ (rr : Fin 520) (n : Fin 1024), rr.val < 8 → (show FVec Ideal S520x1024 .f32 from (outsAt0 m c (t.val - 1) (Nat.lt_of_le_of_lt (Nat.sub_le _ _) t.isLt)).2.2.1) (ix2 rr n) = cr rr.val n.val)
    (ht : Tab (show FVec Ideal S512x128 .f32 from iblk m c 4 t) (show FVec Ideal S512x128 .f32 from iblk m c 5 t) (show FVec Ideal S512x128 .f32 from iblk m c 6 t) r co si)
    (hq : ∀ (d : Fin 4) (n : ℕ), n < 1024 → cv (show FVec Ideal S512x2048 .bf16 from (outsAt0 m c (t.val - 1) (Nat.lt_of_le_of_lt (Nat.sub_le _ _) t.isLt)).2.2.2.2) (show FVec Ideal S1x2048x4480 .bf16 from iblk m c 3 t) cr (8 + r.val - d.val) n = q d.val (2304 + n)) :
    (outsAt0 m c t.val t.isLt).1 (ix2 r l) = outRow (show FVec Ideal S512x2048 .bf16 from (outsAt0 m c (t.val - 1) (Nat.lt_of_le_of_lt (Nat.sub_le _ _) t.isLt)).2.2.2.2) (show FVec Ideal S1x2048x4480 .bf16 from iblk m c 3 t) (show FVec Ideal S1x512 .f32 from iblk m c 7 t) (show FVec Ideal S4x1024 .f32 from iblk m c 8 t) r l q co si := by
  rw [outsAt0_B m c t h0 h1 h2 h3]
  frame_out
  simp only [read_unread_whole]
  exact out_b (outsAt0 m c (t.val - 1) (Nat.lt_of_le_of_lt (Nat.sub_le _ _) t.isLt)).2.2.2.2 (iblk m c 3 t) (iblk m c 4 t) (iblk m c 5 t) (iblk m c 6 t) (iblk m c 7 t) (iblk m c 8 t) r l q co si cr _ (fun rr n hr => (congrFun (read_unread_whole _ _ _) _).trans (hcr rr n hr)) ht hq

/-- Case A: the output block. -/
theorem o10A (h0 : t.val % 64 = 0) (h1 : t.val % 16 = 0) (h2 : t.val % 2 = 0) (h3 : ¬t.val % 2 = 1)
    (ht : Tab (show FVec Ideal S512x128 .f32 from iblk m c 4 t) (show FVec Ideal S512x128 .f32 from iblk m c 5 t) (show FVec Ideal S512x128 .f32 from iblk m c 6 t) r co si)
    (hq : ∀ (d : Fin 4) (n : ℕ), n < 1024 → cv (show FVec Ideal S512x2048 .bf16 from (k0_pay2 (F := Ideal) (iblk m c 1 t) (iblk m c 2 t))) (show FVec Ideal S1x2048x4480 .bf16 from iblk m c 3 t) (fun _ _ => 0) (8 + r.val - d.val) n = q d.val (2304 + n)) :
    (outsAt0 m c t.val t.isLt).1 (ix2 r l) = outRow (show FVec Ideal S512x2048 .bf16 from (k0_pay2 (F := Ideal) (iblk m c 1 t) (iblk m c 2 t))) (show FVec Ideal S1x2048x4480 .bf16 from iblk m c 3 t) (show FVec Ideal S1x512 .f32 from iblk m c 7 t) (show FVec Ideal S4x1024 .f32 from iblk m c 8 t) r l q co si := by
  rw [outsAt0_A m c t h0 h1 h2 h3]
  frame_out
  exact out_a (k0_pay2 (F := Ideal) (iblk m c 1 t) (iblk m c 2 t)) (iblk m c 3 t) (iblk m c 4 t) (iblk m c 5 t) (iblk m c 6 t) (iblk m c 7 t) (iblk m c 8 t) r l q co si ht hq

/-- Case C: the output block. -/
theorem o10C (h0 : ¬t.val % 64 = 0) (h1 : ¬t.val % 16 = 0) (h2 : t.val % 2 = 0) (h3 : ¬t.val % 2 = 1)
    (hcr : ∀ (rr : Fin 520) (n : Fin 1024), rr.val < 8 → (show FVec Ideal S520x1024 .f32 from (outsAt0 m c (t.val - 1) (Nat.lt_of_le_of_lt (Nat.sub_le _ _) t.isLt)).2.2.1) (ix2 rr n) = cr rr.val n.val)
    (ht : Tab (show FVec Ideal S512x128 .f32 from iblk m c 4 t) (show FVec Ideal S512x128 .f32 from iblk m c 5 t) (show FVec Ideal S512x128 .f32 from iblk m c 6 t) r co si)
    (hq : ∀ (d : Fin 4) (n : ℕ), n < 1024 → cv (show FVec Ideal S512x2048 .bf16 from (outsAt0 m c (t.val - 1) (Nat.lt_of_le_of_lt (Nat.sub_le _ _) t.isLt)).2.2.2.1) (show FVec Ideal S1x2048x4480 .bf16 from iblk m c 3 t) cr (8 + r.val - d.val) n = q d.val (2304 + n)) :
    (outsAt0 m c t.val t.isLt).1 (ix2 r l) = outRow (show FVec Ideal S512x2048 .bf16 from (outsAt0 m c (t.val - 1) (Nat.lt_of_le_of_lt (Nat.sub_le _ _) t.isLt)).2.2.2.1) (show FVec Ideal S1x2048x4480 .bf16 from iblk m c 3 t) (show FVec Ideal S1x512 .f32 from iblk m c 7 t) (show FVec Ideal S4x1024 .f32 from iblk m c 8 t) r l q co si := by
  rw [outsAt0_C m c t h0 h1 h2 h3]
  frame_out
  simp only [read_unread_whole]
  exact out_b (outsAt0 m c (t.val - 1) (Nat.lt_of_le_of_lt (Nat.sub_le _ _) t.isLt)).2.2.2.1 (iblk m c 3 t) (iblk m c 4 t) (iblk m c 5 t) (iblk m c 6 t) (iblk m c 7 t) (iblk m c 8 t) r l q co si cr _ (fun rr n hr => (congrFun (read_unread_whole _ _ _) _).trans (hcr rr n hr)) ht hq

/-- Case D: the output block. -/
theorem o10D (h0 : ¬t.val % 64 = 0) (h1 : t.val % 16 = 0) (h2 : t.val % 2 = 0) (h3 : ¬t.val % 2 = 1)
    (ht : Tab (show FVec Ideal S512x128 .f32 from iblk m c 4 t) (show FVec Ideal S512x128 .f32 from iblk m c 5 t) (show FVec Ideal S512x128 .f32 from iblk m c 6 t) r co si)
    (hq : ∀ (d : Fin 4) (n : ℕ), n < 1024 → cv (show FVec Ideal S512x2048 .bf16 from (outsAt0 m c (t.val - 1) (Nat.lt_of_le_of_lt (Nat.sub_le _ _) t.isLt)).2.2.2.1) (show FVec Ideal S1x2048x4480 .bf16 from iblk m c 3 t) (fun _ _ => 0) (8 + r.val - d.val) n = q d.val (2304 + n)) :
    (outsAt0 m c t.val t.isLt).1 (ix2 r l) = outRow (show FVec Ideal S512x2048 .bf16 from (outsAt0 m c (t.val - 1) (Nat.lt_of_le_of_lt (Nat.sub_le _ _) t.isLt)).2.2.2.1) (show FVec Ideal S1x2048x4480 .bf16 from iblk m c 3 t) (show FVec Ideal S1x512 .f32 from iblk m c 7 t) (show FVec Ideal S4x1024 .f32 from iblk m c 8 t) r l q co si := by
  rw [outsAt0_D m c t h0 h1 h2 h3]
  frame_out
  simp only [read_unread_whole]
  exact out_a (outsAt0 m c (t.val - 1) (Nat.lt_of_le_of_lt (Nat.sub_le _ _) t.isLt)).2.2.2.1 (iblk m c 3 t) (iblk m c 4 t) (iblk m c 5 t) (iblk m c 6 t) (iblk m c 7 t) (iblk m c 8 t) r l q co si ht hq

end cases

end Cert.Kernel3Ideal.InProj

end
-- ==== Proof.InProj.Step2.lean ====
/- What one point of the grid leaves beside its output block: the row of gates, the normalised tile for the next point, and
   the last eight projected rows for the next convolution. -/
module

public import proofs.«01_k».proof.Proof.InProj.Step

@[expose] public section

set_option maxRecDepth 16384

noncomputable section

namespace Cert.Kernel3Ideal.InProj

open Idealize.ShloMosaic Idealize.ShloMosaic.TcCoe Idealize.SL.Sem
open Idealize.ShloMosaic.Pipeline (Dat)
open Cert.Kernel3Ideal Cert.Kernel3Ideal.Gen Cert.InMath Cert.FfnMath

section block

variable (hn : FVec Ideal S512x2048 .bf16) (W : FVec Ideal S1x2048x4480 .bf16)

/-- A store of columns to the right leaves an entry. -/
theorem rd_left (f : (View.whole cc0_scratch0).ty.Contents (Elt Ideal)) (o : ℕ) (inb) (w : FVec Ideal S512x256 .f32) (L) (rr : Fin 520) (c : Fin 1024) (h : c.val < o) :
    rd f ((⟨Rect.unit (s := S520x1024) ![8, o] ![512, 256] inb, w⟩ : View.Piece (Elt Ideal) S520x1024 .f32) :: L) (ix2 rr c) = rd f L (ix2 rr c) :=
  View.read_writes_cons_unit_of_not_mem (View.whole cc0_scratch0) f inb w L (ix2 rr c) rfl (1 : Fin 2) (Or.inl h)

/-- After the four stores the tile's rows are in the buffer. -/
theorem bl_all (f : (View.whole cc0_scratch0).ty.Contents (Elt Ideal)) (L) (rr : Fin 520) (c : Fin 1024) (h : 8 ≤ rr.val) :
    rd f (bl3 hn W L) (ix2 rr c) = pcol hn W (rr.val - 8) (2304 + c.val) := by
  have hc := c.isLt
  unfold bl3
  by_cases h3 : 768 ≤ c.val
  · exact rd_hi hn W f 768 _ _ _ rr c h h3 (by omega) (bw3 hn W)
  rw [rd_left f 768 _ _ _ rr c (by omega)]
  unfold bl2
  by_cases h2 : 512 ≤ c.val
  · exact rd_hi hn W f 512 _ _ _ rr c h h2 (by omega) (bw2 hn W)
  rw [rd_left f 512 _ _ _ rr c (by omega)]
  unfold bl1
  by_cases h1 : 256 ≤ c.val
  · exact rd_hi hn W f 256 _ _ _ rr c h h1 (by omega) (bw1 hn W)
  rw [rd_left f 256 _ _ _ rr c (by omega)]
  exact rd_hi hn W f 0 _ _ _ rr c h (by omega) (by omega) (bw0 hn W)

/-- The rows a point carries to the next: the tile's last eight. -/
theorem carry_apply (L M : List (View.Piece (Elt Ideal) S520x1024 .f32)) (rr : Fin 520) (c : Fin 1024) (h : rr.val < 8) :
    View.canon ((⟨Rect.unit ![0, 0] ![8, 1024] inb_S520x1024_S8x1024_0_0, k0_pay29 (F := Ideal) ((View.whole cc0_scratch0).readCov (Val := Elt Ideal) (bl3 hn W L)
      (Rect.unit (s := S520x1024) ![512, 0] ![8, 1024] inb_S520x1024_S8x1024_512_0).toLoadRect)⟩ : View.Piece (Elt Ideal) S520x1024 .f32) :: M) (ix2 rr c)
      = pcol hn W (504 + rr.val) (2304 + c.val) := by
  refine (View.read_writes_junk_apply_eq_canon (Val := Elt Ideal) (View.whole cc0_scratch0) (ix2 rr c) _).symm.trans ?_
  refine (View.read_writes_cons_unit_of_mem (View.whole cc0_scratch0) _ inb_S520x1024_S8x1024_0_0 _ M (ix2 rr c) (ix2 (⟨rr.val, h⟩ : Fin 8) c) rfl ?_).trans ?_
  · intro a
    fin_cases a
    · exact (Nat.zero_add _).symm
    · exact (Nat.zero_add _).symm
  · pointwise [k0_pay29]
    refine (View.ld_unit_apply_of (Val := Elt Ideal) (e := .f32) (rd (View.whole cc0_scratch0).junk (bl3 hn W L)) ![512, 0] ![8, 1024] inb_S520x1024_S8x1024_512_0 (ix2 (⟨rr.val, h⟩ : Fin 8) c) (ix2 ⟨512 + rr.val, by omega⟩ c) (by intro a; fin_cases a <;> simp)).trans ?_
    rw [bl_all hn W _ _ _ _ (by show 8 ≤ 512 + rr.val; omega)]
    exact congrArg (fun a => pcol hn W a (2304 + c.val)) (by show 512 + rr.val - 8 = 504 + rr.val; omega)

/-- The row of gates. -/
theorem gates_apply (x9 : FVec Ideal S1x128 .f32) (ib fb : ℕ → EReal) (r : Fin 512) (j : Fin 128)
    (h9 : ∀ j : Fin 128, x9 (ix2 0 j) = if j.val < 4 then ib j.val else if j.val < 8 then fb (j.val - 4) else 0) (hz : ∀ n, 4360 ≤ n → pcol hn W r.val n = 0) :
    k0_pay1 (F := Ideal) (k0_pay75 (F := Ideal) hn (View.ld (Val := Elt Ideal) (e' := .bf16) W (Rect.unit ![0, 0, 4352] ![1, 2048, 128] inb_S1x2048x4480_S1x2048x128_0_0_4352)) x9) k0_pay76 (k0_pay79 (F := Ideal) hn (View.ld (Val := Elt Ideal) (e' := .bf16) W (Rect.unit ![0, 0, 4352] ![1, 2048, 128] inb_S1x2048x4480_S1x2048x128_0_0_4352)) x9) (k0_pay80 (F := Ideal) hn (View.ld (Val := Elt Ideal) (e' := .bf16) W (Rect.unit ![0, 0, 4352] ![1, 2048, 128] inb_S1x2048x4480_S1x2048x128_0_0_4352)) x9) (k0_pay81 (F := Ideal) hn (View.ld (Val := Elt Ideal) (e' := .bf16) W (Rect.unit ![0, 0, 4352] ![1, 2048, 128] inb_S1x2048x4480_S1x2048x128_0_0_4352)) x9) (ix2 r j)
      = gate (pcol hn W r.val) ib fb j.val := by
  rw [pay1_apply, gm_ld, h9]
  by_cases a : j.val < 4
  · rw [if_neg (by omega), if_pos a, gate0 a]
  · by_cases b : j.val < 8
    · rw [if_pos ⟨by omega, b⟩, if_neg a, if_pos b, gate1 (by omega) b]
    · rw [if_neg (by omega), if_neg a, if_neg b, gate2 (by omega), hz _ (by omega), add_zero]

end block

variable (m : (ℓ : Loc nD τ sig) → Buf (Elt Ideal) ℓ)

section cases

variable (c : Dev nD) (t : Fin cfg0.N)

/-- Case B: the row of gates. -/
theorem o11B (h0 : ¬t.val % 64 = 0) (h1 : ¬t.val % 16 = 0) (h2 : ¬t.val % 2 = 0) (h3 : t.val % 2 = 1) (ib fb : ℕ → EReal) (r : Fin 512) (j : Fin 128)
    (h9 : ∀ j : Fin 128, (show FVec Ideal S1x128 .f32 from iblk m c 9 t) (ix2 0 j) = if j.val < 4 then ib j.val else if j.val < 8 then fb (j.val - 4) else 0)
    (hz : ∀ n, 4360 ≤ n → pcol (show FVec Ideal S512x2048 .bf16 from (outsAt0 m c (t.val - 1) (Nat.lt_of_le_of_lt (Nat.sub_le _ _) t.isLt)).2.2.2.2) (show FVec Ideal S1x2048x4480 .bf16 from iblk m c 3 t) r.val n = 0) :
    (outsAt0 m c t.val t.isLt).2.1 (ix2 r j) = gate (pcol (show FVec Ideal S512x2048 .bf16 from (outsAt0 m c (t.val - 1) (Nat.lt_of_le_of_lt (Nat.sub_le _ _) t.isLt)).2.2.2.2) (show FVec Ideal S1x2048x4480 .bf16 from iblk m c 3 t) r.val) ib fb j.val := by
  rw [outsAt0_B m c t h0 h1 h2 h3]
  frame_out
  simp only [read_unread_whole]
  exact gates_apply (outsAt0 m c (t.val - 1) (Nat.lt_of_le_of_lt (Nat.sub_le _ _) t.isLt)).2.2.2.2 (iblk m c 3 t) (iblk m c 9 t) ib fb r j h9 hz

/-- Case B: the carried rows. -/
theorem scB (h0 : ¬t.val % 64 = 0) (h1 : ¬t.val % 16 = 0) (h2 : ¬t.val % 2 = 0) (h3 : t.val % 2 = 1) (rr : Fin 520) (n : Fin 1024) (hr : rr.val < 8) :
    (outsAt0 m c t.val t.isLt).2.2.1 (ix2 rr n) = pcol (show FVec Ideal S512x2048 .bf16 from (outsAt0 m c (t.val - 1) (Nat.lt_of_le_of_lt (Nat.sub_le _ _) t.isLt)).2.2.2.2) (show FVec Ideal S1x2048x4480 .bf16 from iblk m c 3 t) (504 + rr.val) (2304 + n.val) := by
  rw [outsAt0_B m c t h0 h1 h2 h3]
  frame_out
  simp only [read_unread_whole]
  exact carry_apply (outsAt0 m c (t.val - 1) (Nat.lt_of_le_of_lt (Nat.sub_le _ _) t.isLt)).2.2.2.2 (iblk m c 3 t) [] _ rr n hr

/-- Case B: the normalised tile for the next point. -/
theorem shB (h0 : ¬t.val % 64 = 0) (h1 : ¬t.val % 16 = 0) (h2 : ¬t.val % 2 = 0) (h3 : t.val % 2 = 1) (r : Fin 512) (k : Fin 2048) :
    (outsAt0 m c t.val t.isLt).2.2.2.1 (ix2 r k) = rms (fun k => (show FVec Ideal S512x2048 .f32 from iblk m c 0 t) (ix2 r k)) (fun k => (show FVec Ideal S1x2048 .f32 from iblk m c 2 t) (ix2 0 k)) k := by
  rw [outsAt0_B m c t h0 h1 h2 h3]
  frame_out
  exact pay2_apply (iblk m c 0 t) (iblk m c 2 t) r k

/-- Case A: the row of gates. -/
theorem o11A (h0 : t.val % 64 = 0) (h1 : t.val % 16 = 0) (h2 : t.val % 2 = 0) (h3 : ¬t.val % 2 = 1) (ib fb : ℕ → EReal) (r : Fin 512) (j : Fin 128)
    (h9 : ∀ j : Fin 128, (show FVec Ideal S1x128 .f32 from iblk m c 9 t) (ix2 0 j) = if j.val < 4 then ib j.val else if j.val < 8 then fb (j.val - 4) else 0)
    (hz : ∀ n, 4360 ≤ n → pcol (show FVec Ideal S512x2048 .bf16 from (k0_pay2 (F := Ideal) (iblk m c 1 t) (iblk m c 2 t))) (show FVec Ideal S1x2048x4480 .bf16 from iblk m c 3 t) r.val n = 0) :
    (outsAt0 m c t.val t.isLt).2.1 (ix2 r j) = gate (pcol (show FVec Ideal S512x2048 .bf16 from (k0_pay2 (F := Ideal) (iblk m c 1 t) (iblk m c 2 t))) (show FVec Ideal S1x2048x4480 .bf16 from iblk m c 3 t) r.val) ib fb j.val := by
  rw [outsAt0_A m c t h0 h1 h2 h3]
  frame_out
  exact gates_apply (k0_pay2 (F := Ideal) (iblk m c 1 t) (iblk m c 2 t)) (iblk m c 3 t) (iblk m c 9 t) ib fb r j h9 hz

/-- Case A: the carried rows. -/
theorem scA (h0 : t.val % 64 = 0) (h1 : t.val % 16 = 0) (h2 : t.val % 2 = 0) (h3 : ¬t.val % 2 = 1) (rr : Fin 520) (n : Fin 1024) (hr : rr.val < 8) :
    (outsAt0 m c t.val t.isLt).2.2.1 (ix2 rr n) = pcol (show FVec Ideal S512x2048 .bf16 from (k0_pay2 (F := Ideal) (iblk m c 1 t) (iblk m c 2 t))) (show FVec Ideal S1x2048x4480 .bf16 from iblk m c 3 t) (504 + rr.val) (2304 + n.val) := by
  rw [outsAt0_A m c t h0 h1 h2 h3]
  frame_out
  exact carry_apply (k0_pay2 (F := Ideal) (iblk m c 1 t) (iblk m c 2 t)) (iblk m c 3 t) zlist _ rr n hr

/-- Case A: the normalised tile for the next point. -/
theorem shA (h0 : t.val % 64 = 0) (h1 : t.val % 16 = 0) (h2 : t.val % 2 = 0) (h3 : ¬t.val % 2 = 1) (r : Fin 512) (k : Fin 2048) :
    (outsAt0 m c t.val t.isLt).2.2.2.2 (ix2 r k) = rms (fun k => (show FVec Ideal S512x2048 .f32 from iblk m c 0 t) (ix2 r k)) (fun k => (show FVec Ideal S1x2048 .f32 from iblk m c 2 t) (ix2 0 k)) k := by
  rw [outsAt0_A m c t h0 h1 h2 h3]
  frame_out
  exact pay2_apply (iblk m c 0 t) (iblk m c 2 t) r k

/-- Case C: the row of gates. -/
theorem o11C (h0 : ¬t.val % 64 = 0) (h1 : ¬t.val % 16 = 0) (h2 : t.val % 2 = 0) (h3 : ¬t.val % 2 = 1) (ib fb : ℕ → EReal) (r : Fin 512) (j : Fin 128)
    (h9 : ∀ j : Fin 128, (show FVec Ideal S1x128 .f32 from iblk m c 9 t) (ix2 0 j) = if j.val < 4 then ib j.val else if j.val < 8 then fb (j.val - 4) else 0)
    (hz : ∀ n, 4360 ≤ n → pcol (show FVec Ideal S512x2048 .bf16 from (outsAt0 m c (t.val - 1) (Nat.lt_of_le_of_lt (Nat.sub_le _ _) t.isLt)).2.2.2.1) (show FVec Ideal S1x2048x4480 .bf16 from iblk m c 3 t) r.val n = 0) :
    (outsAt0 m c t.val t.isLt).2.1 (ix2 r j) = gate (pcol (show FVec Ideal S512x2048 .bf16 from (outsAt0 m c (t.val - 1) (Nat.lt_of_le_of_lt (Nat.sub_le _ _) t.isLt)).2.2.2.1) (show FVec Ideal S1x2048x4480 .bf16 from iblk m c 3 t) r.val) ib fb j.val := by
  rw [outsAt0_C m c t h0 h1 h2 h3]
  frame_out
  simp only [read_unread_whole]
  exact gates_apply (outsAt0 m c (t.val - 1) (Nat.lt_of_le_of_lt (Nat.sub_le _ _) t.isLt)).2.2.2.1 (iblk m c 3 t) (iblk m c 9 t) ib fb r j h9 hz

/-- Case C: the carried rows. -/
theorem scC (h0 : ¬t.val % 64 = 0) (h1 : ¬t.val % 16 = 0) (h2 : t.val % 2 = 0) (h3 : ¬t.val % 2 = 1) (rr : Fin 520) (n : Fin 1024) (hr : rr.val < 8) :
    (outsAt0 m c t.val t.isLt).2.2.1 (ix2 rr n) = pcol (show FVec Ideal S512x2048 .bf16 from (outsAt0 m c (t.val - 1) (Nat.lt_of_le_of_lt (Nat.sub_le _ _) t.isLt)).2.2.2.1) (show FVec Ideal S1x2048x4480 .bf16 from iblk m c 3 t) (504 + rr.val) (2304 + n.val) := by
  rw [outsAt0_C m c t h0 h1 h2 h3]
  frame_out
  simp only [read_unread_whole]
  exact carry_apply (outsAt0 m c (t.val - 1) (Nat.lt_of_le_of_lt (Nat.sub_le _ _) t.isLt)).2.2.2.1 (iblk m c 3 t) [] _ rr n hr

/-- Case C: the normalised tile for the next point. -/
theorem shC (h0 : ¬t.val % 64 = 0) (h1 : ¬t.val % 16 = 0) (h2 : t.val % 2 = 0) (h3 : ¬t.val % 2 = 1) (r : Fin 512) (k : Fin 2048) :
    (outsAt0 m c t.val t.isLt).2.2.2.2 (ix2 r k) = rms (fun k => (show FVec Ideal S512x2048 .f32 from iblk m c 0 t) (ix2 r k)) (fun k => (show FVec Ideal S1x2048 .f32 from iblk m c 2 t) (ix2 0 k)) k := by
  rw [outsAt0_C m c t h0 h1 h2 h3]
  frame_out
  exact pay2_apply (iblk m c 0 t) (iblk m c 2 t) r k

/-- Case D: the row of gates. -/
theorem o11D (h0 : ¬t.val % 64 = 0) (h1 : t.val % 16 = 0) (h2 : t.val % 2 = 0) (h3 : ¬t.val % 2 = 1) (ib fb : ℕ → EReal) (r : Fin 512) (j : Fin 128)
    (h9 : ∀ j : Fin 128, (show FVec Ideal S1x128 .f32 from iblk m c 9 t) (ix2 0 j) = if j.val < 4 then ib j.val else if j.val < 8 then fb (j.val - 4) else 0)
    (hz : ∀ n, 4360 ≤ n → pcol (show FVec Ideal S512x2048 .bf16 from (outsAt0 m c (t.val - 1) (Nat.lt_of_le_of_lt (Nat.sub_le _ _) t.isLt)).2.2.2.1) (show FVec Ideal S1x2048x4480 .bf16 from iblk m c 3 t) r.val n = 0) :
    (outsAt0 m c t.val t.isLt).2.1 (ix2 r j) = gate (pcol (show FVec Ideal S512x2048 .bf16 from (outsAt0 m c (t.val - 1) (Nat.lt_of_le_of_lt (Nat.sub_le _ _) t.isLt)).2.2.2.1) (show FVec Ideal S1x2048x4480 .bf16 from iblk m c 3 t) r.val) ib fb j.val := by
  rw [outsAt0_D m c t h0 h1 h2 h3]
  frame_out
  simp only [read_unread_whole]
  exact gates_apply (outsAt0 m c (t.val - 1) (Nat.lt_of_le_of_lt (Nat.sub_le _ _) t.isLt)).2.2.2.1 (iblk m c 3 t) (iblk m c 9 t) ib fb r j h9 hz

/-- Case D: the carried rows. -/
theorem scD (h0 : ¬t.val % 64 = 0) (h1 : t.val % 16 = 0) (h2 : t.val % 2 = 0) (h3 : ¬t.val % 2 = 1) (rr : Fin 520) (n : Fin 1024) (hr : rr.val < 8) :
    (outsAt0 m c t.val t.isLt).2.2.1 (ix2 rr n) = pcol (show FVec Ideal S512x2048 .bf16 from (outsAt0 m c (t.val - 1) (Nat.lt_of_le_of_lt (Nat.sub_le _ _) t.isLt)).2.2.2.1) (show FVec Ideal S1x2048x4480 .bf16 from iblk m c 3 t) (504 + rr.val) (2304 + n.val) := by
  rw [outsAt0_D m c t h0 h1 h2 h3]
  frame_out
  simp only [read_unread_whole]
  exact carry_apply (outsAt0 m c (t.val - 1) (Nat.lt_of_le_of_lt (Nat.sub_le _ _) t.isLt)).2.2.2.1 (iblk m c 3 t) zlist _ rr n hr

/-- Case D: the normalised tile for the next point. -/
theorem shD (h0 : ¬t.val % 64 = 0) (h1 : t.val % 16 = 0) (h2 : t.val % 2 = 0) (h3 : ¬t.val % 2 = 1) (r : Fin 512) (k : Fin 2048) :
    (outsAt0 m c t.val t.isLt).2.2.2.2 (ix2 r k) = rms (fun k => (show FVec Ideal S512x2048 .f32 from iblk m c 0 t) (ix2 r k)) (fun k => (show FVec Ideal S1x2048 .f32 from iblk m c 2 t) (ix2 0 k)) k := by
  rw [outsAt0_D m c t h0 h1 h2 h3]
  frame_out
  exact pay2_apply (iblk m c 0 t) (iblk m c 2 t) r k

end cases

end Cert.Kernel3Ideal.InProj

end
-- ==== Proof.InProj.Host.lean ====
/- The arrays the host hands to the kernel and the blocks of them a grid point sees, entry by entry in terms of the arguments. -/
module

public import proofs.«01_k».proof.Proof.Gen.Kernel3Ideal.Frame.Runs
public import proofs.«01_k».proof.Proof.InProj.Pay
public import Idealize.ShloMosaic.Lib.Pipeline.ValueKit
public import Idealize.ShloMosaic.Lib.StableHlo.RunRead

@[expose] public section

set_option maxRecDepth 16384

noncomputable section

namespace Cert.Kernel3Ideal.InProj

open Idealize.ShloMosaic Idealize.ShloMosaic.TcCoe Idealize.SL.Sem
open Idealize.ShloMosaic.Pipeline (Dat)
open Cert.Kernel3Ideal Cert.Kernel3Ideal.Gen Cert.InMath Cert.FfnMath

variable (m : (ℓ : Loc nD τ sig) → Buf (Elt Ideal) ℓ)

/-- Where each window's block lies at a grid point. -/
theorem idx : ∀ t : Fin cfg0.N, win0_0.index t = ![min (t.val + 1) 63, 0] ∧ win0_1.index t = ![0, 0] ∧ win0_2.index t = ![0, 0] ∧ win0_3.index t = ![0, 0, 0]
    ∧ win0_4.index t = ![t.val % 16, 0] ∧ win0_5.index t = ![t.val % 16, 0] ∧ win0_6.index t = ![t.val % 16, 0] ∧ win0_7.index t = ![0, 0]
    ∧ win0_8.index t = ![0, 0] ∧ win0_9.index t = ![0, 0] ∧ win0_10.index t = ![t.val, 0] ∧ win0_11.index t = ![t.val, 0] ∧ t.val < 64 :=
  (by decide +kernel : ∀ t : Fin grid0.N, _)

/-- The hidden state. -/
abbrev X (c : Dev nD) : FVec Ideal S4x8192x2048 .f32 := m ((c : Thread nD τ).loc main_arg0)
/-- The gains of the normalisation. -/
abbrev G (c : Dev nD) : FVec Ideal S4x2048 .f32 := m ((c : Thread nD τ).loc main_arg1)
/-- The weights. -/
abbrev Wt (c : Dev nD) : FVec Ideal S4x2048x4360 .f32 := m ((c : Thread nD τ).loc main_arg2)
/-- The gains of the gating part. -/
abbrev VG (c : Dev nD) : FVec Ideal S4x512 .f32 := m ((c : Thread nD τ).loc main_arg3)
/-- The taps of the convolution. -/
abbrev CW (c : Dev nD) : FVec Ideal S4x4x1024 .f32 := m ((c : Thread nD τ).loc main_arg4)
/-- The biases of the input gates. -/
abbrev IB (c : Dev nD) : FVec Ideal S4x4 .f32 := m ((c : Thread nD τ).loc main_arg5)
/-- The biases of the forget gates. -/
abbrev FB (c : Dev nD) : FVec Ideal S4x4 .f32 := m ((c : Thread nD τ).loc main_arg6)

/-- Row `i` of the hidden state. -/
def hrow (c : Dev nD) (i : ℕ) (k : Fin 2048) : EReal := X m c (ix3 ⟨i / 8192 % 4, by omega⟩ ⟨i % 8192, by omega⟩ k)

/-- An operation of three operands leaves in its result its function of the three operands' contents. -/
theorem three_result (x a b y : Ref sig .tc) (f : ((k : Fin 3) → ((![x, a, b] : Fin 3 → Ref sig .tc) k).ty.Contents (Elt Ideal)) → y.ty.Contents (Elt Ideal)) (hxs hy)
    (F : Valuation τ sig (Elt Ideal)) :
    (StableHlo.nary (τ := τ) ![x, a, b] y f hxs hy).result F (no_index (Proc.devRef .tc y))
      = f (Fin.cons (F (Proc.devRef .tc x)) (Fin.cons (F (Proc.devRef .tc a)) (Fin.cons (F (Proc.devRef .tc b)) fun i => i.elim0))) := by
  refine (StableHlo.nary_result ..).trans (congrArg f (funext fun k => ?_))
  fin_cases k <;> rfl

/-- The block of the next tile. -/
theorem x0_apply (c : Dev nD) (t : Fin cfg0.N) (r : Fin 512) (k : Fin 2048) :
    (show FVec Ideal S512x2048 .f32 from iblk m c 0 t) (ix2 r k) = hrow m c (min (t.val + 1) 63 * 512 + r.val) k := by
  have ht := (idx t).2.2.2.2.2.2.2.2.2.2.2.2
  have e : (show FVec Ideal S512x2048 .f32 from iblk m c 0 t) (ix2 r k)
      = (show FVec Ideal S32768x2048 .f32 from V m c main_v43) (ix2 ⟨min (t.val + 1) 63 * 512 + r.val, by omega⟩ k) := by
    have e0 := (idx t).1
    blk_ext [iblk, e0]
  rw [e]
  unfold V
  simp only [hostOps0, hostOps0_1, hostOps0_2, hostOps0_3, hostOps0_4, List.flatten_cons, List.flatten_nil, List.append_nil, List.cons_append, List.nil_append]
  entry_read
  pointwise [hrow, X]
  exact congrArg (m ((c : Thread nD τ).loc main_arg0) : FVec Ideal S4x8192x2048 .f32) (by idx_ext)

/-- The block of the first tile. -/
theorem x1_apply (c : Dev nD) (t : Fin cfg0.N) (r : Fin 512) (k : Fin 2048) :
    (show FVec Ideal S512x2048 .f32 from iblk m c 1 t) (ix2 r k) = hrow m c r.val k := by
  have ht := (idx t).2.2.2.2.2.2.2.2.2.2.2.2
  have e : (show FVec Ideal S512x2048 .f32 from iblk m c 1 t) (ix2 r k)
      = (show FVec Ideal S32768x2048 .f32 from V m c main_v43) (ix2 ⟨r.val, by omega⟩ k) := by
    have e0 := (idx t).2.1
    blk_ext [iblk, e0]
  rw [e]
  unfold V
  simp only [hostOps0, hostOps0_1, hostOps0_2, hostOps0_3, hostOps0_4, List.flatten_cons, List.flatten_nil, List.append_nil, List.cons_append, List.nil_append]
  entry_read
  pointwise [hrow, X]
  exact congrArg (m ((c : Thread nD τ).loc main_arg0) : FVec Ideal S4x8192x2048 .f32) (by idx_ext)

/-- The gain of the layer. -/
theorem x2_apply (c : Dev nD) (t : Fin cfg0.N) (k : Fin 2048) :
    (show FVec Ideal S1x2048 .f32 from iblk m c 2 t) (ix2 0 k) = G m c (ix2 0 k) := by
  have ht := (idx t).2.2.2.2.2.2.2.2.2.2.2.2
  have e : (show FVec Ideal S1x2048 .f32 from iblk m c 2 t) (ix2 0 k)
      = (show FVec Ideal S1x2048 .f32 from V m c main_v46) (ix2 0 k) := by
    have e0 := (idx t).2.2.1
    blk_ext [iblk, e0]
  rw [e]
  unfold V
  simp only [hostOps0, hostOps0_1, hostOps0_2, hostOps0_3, hostOps0_4, List.flatten_cons, List.flatten_nil, List.append_nil, List.cons_append, List.nil_append]
  entry_read
  pointwise [G]

/-- The weights of the layer, padded with zeros. -/
theorem x3_apply (c : Dev nD) (t : Fin cfg0.N) (k : Fin 2048) (n : Fin 4480) :
    (show FVec Ideal S1x2048x4480 .bf16 from iblk m c 3 t) (ix3 0 k n) = if h : n.val < 4360 then Wt m c (ix3 0 k ⟨n.val, h⟩) else 0 := by
  have ht := (idx t).2.2.2.2.2.2.2.2.2.2.2.2
  have e : (show FVec Ideal S1x2048x4480 .bf16 from iblk m c 3 t) (ix3 0 k n)
      = (show FVec Ideal S4x2048x4480 .bf16 from V m c main_v36) (ix3 0 k n) := by
    have e0 := (idx t).2.2.2.1
    blk_ext [iblk, e0]
  rw [e]
  unfold V
  simp only [hostOps0, hostOps0_1, hostOps0_2, hostOps0_3, hostOps0_4, List.flatten_cons, List.flatten_nil, List.append_nil, List.cons_append, List.nil_append]
  entry_read
  simp only [StableHlo.TRef.toBuf, StableHlo.TRef.ofBuf, cast_eq]
  pointwise [Wt]
  have z : ∀ φ, (FloatOps.sitofp (F := Ideal) φ (0#32) : EReal) = 0 := by
    intro φ
    show (((0#32).toInt : ℝ) : EReal) = 0
    simp
  rw [z]

set_option maxHeartbeats 4000000 in
/-- The table of cosines. -/
theorem x4_apply (c : Dev nD) (t : Fin cfg0.N) (r : Fin 512) (j : Fin 128) :
    (show FVec Ideal S512x128 .f32 from iblk m c 4 t) (ix2 r j) = if j.val % 64 < 16 then cosT (t.val % 16 * 512 + r.val) (j.val % 8) else 1 := by
  have ht := (idx t).2.2.2.2.2.2.2.2.2.2.2.2
  have e : (show FVec Ideal S512x128 .f32 from iblk m c 4 t) (ix2 r j)
      = (show FVec Ideal S8192x128 .f32 from V m c main_v28) (ix2 ⟨t.val % 16 * 512 + r.val, by omega⟩ j) := by
    have e0 := (idx t).2.2.2.2.1
    blk_ext [iblk, e0]
  rw [e]
  unfold V
  simp only [hostOps0, hostOps0_1, hostOps0_2, hostOps0_3, hostOps0_4, List.flatten_cons, List.flatten_nil, List.append_nil, List.cons_append, List.nil_append]
  after_reads_simp [three_result]
  pointwise [cosT, ang]
  after_reads_simp [three_result]
  pointwise [cosT, sinT, ang]
  by_cases h : j.val % 64 < 8
  · rw [dif_pos h, if_pos (by omega), (by omega : j.val % 64 = j.val % 8)]
  · rw [dif_neg h]
    by_cases h' : j.val % 64 - 8 < 8
    · rw [dif_pos h', if_pos (by omega), (by omega : j.val % 64 - 8 = j.val % 8)]
    · rw [dif_neg h', if_neg (by omega)]

set_option maxHeartbeats 4000000 in
/-- The table of negated sines. -/
theorem x5_apply (c : Dev nD) (t : Fin cfg0.N) (r : Fin 512) (j : Fin 128) :
    (show FVec Ideal S512x128 .f32 from iblk m c 5 t) (ix2 r j) = if j.val % 64 < 8 then -sinT (t.val % 16 * 512 + r.val) (j.val % 8) else 0 := by
  have ht := (idx t).2.2.2.2.2.2.2.2.2.2.2.2
  have e : (show FVec Ideal S512x128 .f32 from iblk m c 5 t) (ix2 r j)
      = (show FVec Ideal S8192x128 .f32 from V m c main_v31) (ix2 ⟨t.val % 16 * 512 + r.val, by omega⟩ j) := by
    have e0 := (idx t).2.2.2.2.2.1
    blk_ext [iblk, e0]
  rw [e]
  unfold V
  simp only [hostOps0, hostOps0_1, hostOps0_2, hostOps0_3, hostOps0_4, List.flatten_cons, List.flatten_nil, List.append_nil, List.cons_append, List.nil_append]
  entry_read
  pointwise [sinT, ang]
  by_cases h : j.val % 64 < 8
  · rw [dif_pos h, if_pos h, (by omega : j.val % 64 = j.val % 8)]
  · rw [dif_neg h, if_neg h]

set_option maxHeartbeats 4000000 in
/-- The table of sines. -/
theorem x6_apply (c : Dev nD) (t : Fin cfg0.N) (r : Fin 512) (j : Fin 128) :
    (show FVec Ideal S512x128 .f32 from iblk m c 6 t) (ix2 r j) = if 8 ≤ j.val % 64 ∧ j.val % 64 < 16 then sinT (t.val % 16 * 512 + r.val) (j.val % 8) else 0 := by
  have ht := (idx t).2.2.2.2.2.2.2.2.2.2.2.2
  have e : (show FVec Ideal S512x128 .f32 from iblk m c 6 t) (ix2 r j)
      = (show FVec Ideal S8192x128 .f32 from V m c main_v34) (ix2 ⟨t.val % 16 * 512 + r.val, by omega⟩ j) := by
    have e0 := (idx t).2.2.2.2.2.2.1
    blk_ext [iblk, e0]
  rw [e]
  unfold V
  simp only [hostOps0, hostOps0_1, hostOps0_2, hostOps0_3, hostOps0_4, List.flatten_cons, List.flatten_nil, List.append_nil, List.cons_append, List.nil_append]
  after_reads_simp [three_result]
  pointwise [sinT, ang]
  after_reads_simp [three_result]
  pointwise [cosT, sinT, ang]
  by_cases h : j.val % 64 < 8
  · rw [dif_pos h, if_neg (by omega)]
  · rw [dif_neg h]
    by_cases h' : j.val % 64 - 8 < 8
    · rw [dif_pos h', if_pos (by omega), (by omega : j.val % 64 - 8 = j.val % 8)]
    · rw [dif_neg h', if_neg (by omega)]

/-- The gain of the gating part. -/
theorem x7_apply (c : Dev nD) (t : Fin cfg0.N) (j : Fin 512) :
    (show FVec Ideal S1x512 .f32 from iblk m c 7 t) (ix2 0 j) = VG m c (ix2 0 j) := by
  have ht := (idx t).2.2.2.2.2.2.2.2.2.2.2.2
  have e : (show FVec Ideal S1x512 .f32 from iblk m c 7 t) (ix2 0 j)
      = (show FVec Ideal S1x512 .f32 from V m c main_v49) (ix2 0 j) := by
    have e0 := (idx t).2.2.2.2.2.2.2.1
    blk_ext [iblk, e0]
  rw [e]
  unfold V
  simp only [hostOps0, hostOps0_1, hostOps0_2, hostOps0_3, hostOps0_4, List.flatten_cons, List.flatten_nil, List.append_nil, List.cons_append, List.nil_append]
  entry_read
  pointwise [VG]

/-- The taps of the convolution. -/
theorem x8_apply (c : Dev nD) (t : Fin cfg0.N) (d : Fin 4) (j : Fin 1024) :
    (show FVec Ideal S4x1024 .f32 from iblk m c 8 t) (ix2 d j) = CW m c (ix3 0 d j) := by
  have ht := (idx t).2.2.2.2.2.2.2.2.2.2.2.2
  have e : (show FVec Ideal S4x1024 .f32 from iblk m c 8 t) (ix2 d j)
      = (show FVec Ideal S4x1024 .f32 from V m c main_v51) (ix2 d j) := by
    have e0 := (idx t).2.2.2.2.2.2.2.2.1
    blk_ext [iblk, e0]
  rw [e]
  unfold V
  simp only [hostOps0, hostOps0_1, hostOps0_2, hostOps0_3, hostOps0_4, List.flatten_cons, List.flatten_nil, List.append_nil, List.cons_append, List.nil_append]
  entry_read
  pointwise [CW]

/-- The biases of the gates, padded with zeros. -/
theorem x9_apply (c : Dev nD) (t : Fin cfg0.N) (j : Fin 128) :
    (show FVec Ideal S1x128 .f32 from iblk m c 9 t) (ix2 0 j) = if j.val < 4 then IB m c (ix2 0 ⟨j.val % 4, by omega⟩) else if j.val < 8 then FB m c (ix2 0 ⟨(j.val - 4) % 4, by omega⟩) else 0 := by
  have ht := (idx t).2.2.2.2.2.2.2.2.2.2.2.2
  have e : (show FVec Ideal S1x128 .f32 from iblk m c 9 t) (ix2 0 j)
      = (show FVec Ideal S1x128 .f32 from V m c main_v52) (ix2 0 j) := by
    have e0 := (idx t).2.2.2.2.2.2.2.2.2.1
    blk_ext [iblk, e0]
  rw [e]
  unfold V
  simp only [hostOps0, hostOps0_1, hostOps0_2, hostOps0_3, hostOps0_4, List.flatten_cons, List.flatten_nil, List.append_nil, List.cons_append, List.nil_append]
  entry_read
  simp only [StableHlo.TRef.toBuf, StableHlo.TRef.ofBuf, cast_eq]
  pointwise [IB, FB]
  have z : ∀ φ, (FloatOps.sitofp (F := Ideal) φ (0#32) : EReal) = 0 := by
    intro φ
    show (((0#32).toInt : ℝ) : EReal) = 0
    simp
  rw [z]
  by_cases h : j.val < 4
  · rw [dif_pos (by omega), dif_pos h, if_pos h]
    exact congrArg (fun q => (m ((c : Thread nD τ).loc main_arg5) : FVec Ideal S4x4 .f32) (ix2 0 q)) (Fin.ext (Nat.mod_eq_of_lt h).symm)
  · rw [if_neg h]
    by_cases h' : j.val < 8
    · rw [dif_pos h', dif_neg h, if_pos h']
      exact congrArg (fun q => (m ((c : Thread nD τ).loc main_arg6) : FVec Ideal S4x4 .f32) (ix2 0 q)) (Fin.ext (by show j.val - 4 = (j.val - 4) % 4; omega))
    · rw [dif_neg h', if_neg h']

end Cert.Kernel3Ideal.InProj

end
-- ==== Proof.InProj.Rows.lean ====
/- The grid's points in the terms of the argument arrays: the normalised tile a point reads, the rows it carries, and its
   output block and gates as rows of the problem. -/
module

public import proofs.«01_k».proof.Proof.InProj.Step2
public import proofs.«01_k».proof.Proof.InProj.Host

@[expose] public section

set_option maxRecDepth 16384

noncomputable section

namespace Cert.Kernel3Ideal.InProj

open Idealize.ShloMosaic Idealize.ShloMosaic.TcCoe Idealize.SL.Sem
open Idealize.ShloMosaic.Pipeline (Dat)
open Cert.Kernel3Ideal Cert.Kernel3Ideal.Gen Cert.InMath Cert.FfnMath

variable (m : (ℓ : Loc nD τ sig) → Buf (Elt Ideal) ℓ)

/-- Column `n` of the projected row `i` of the hidden state. -/
def PR (c : Dev nD) (i n : ℕ) : EReal := prow (hrow m c i) (fun k => G m c (ix2 0 k)) (fun k n => Wt m c (ix3 0 k n)) n

/-- The projected row `d` rows back in the sequence, zero before its start. -/
def QR (c : Dev nD) (i d n : ℕ) : EReal := if d ≤ i % 8192 then PR m c (i - d) n else 0

/-- The normalised row `i`. -/
def NR (c : Dev nD) (i : ℕ) (k : Fin 2048) : EReal := rms (hrow m c i) (fun k => G m c (ix2 0 k)) k

/-- Entry `l` of row `i` of the call's projection. -/
def R10 (c : Dev nD) (i l : ℕ) : EReal :=
  entry (PR m c i) (QR m c i) (cosT (i % 8192)) (sinT (i % 8192)) (fun j => VG m c (ix2 0 ⟨j % 512, by omega⟩))
    (fun t j => CW m c (ix3 0 ⟨t % 4, by omega⟩ ⟨j % 1024, by omega⟩)) (Ideal.ofBits .f32 0x3E38AA3B#32) (Ideal.ofBits .f32 0x3DB504F3#32) l

/-- Lane `l` of row `i` of the call's gates. -/
def R11 (c : Dev nD) (i l : ℕ) : EReal :=
  gate (PR m c i) (fun j => IB m c (ix2 0 ⟨j % 4, by omega⟩)) (fun j => FB m c (ix2 0 ⟨j % 4, by omega⟩)) l

/-- The products of a normalised tile with the weights block are projected rows. -/
theorem pcol_eq (c : Dev nD) (t : Fin cfg0.N) (T : ℕ) (hn : FVec Ideal S512x2048 .bf16) (hh : ∀ (r : Fin 512) (k : Fin 2048), hn (ix2 r k) = NR m c (T * 512 + r.val) k)
    (r : ℕ) (hr : r < 512) (n : ℕ) : pcol hn (show FVec Ideal S1x2048x4480 .bf16 from iblk m c 3 t) r n = PR m c (T * 512 + r) n := by
  have e3 := x3_apply m c t
  generalize (show FVec Ideal S1x2048x4480 .bf16 from iblk m c 3 t) = W at e3 ⊢
  unfold pcol PR prow
  by_cases h : n < 4360
  · rw [dif_pos ⟨hr, by omega⟩, dif_pos h]
    refine Finset.sum_congr rfl fun k _ => ?_
    rw [hh, e3, dif_pos h]
    rfl
  · rw [dif_neg h]
    by_cases h' : n < 4480
    · rw [dif_pos ⟨hr, h'⟩]
      refine Finset.sum_eq_zero fun k _ => ?_
      rw [e3, dif_neg h, mul_zero]
    · rw [dif_neg (by omega)]

/-- The normalisation depends on its rows only. -/
theorem rms_of (a : FVec Ideal S512x2048 .f32) (b : FVec Ideal S1x2048 .f32) (h g : Fin 2048 → EReal) (r : Fin 512) (k : Fin 2048)
    (ea : ∀ k, a (ix2 r k) = h k) (eb : ∀ k, b (ix2 0 k) = g k) : rms (fun k => a (ix2 r k)) (fun k => b (ix2 0 k)) k = rms h g k := by
  rw [show (fun k => a (ix2 r k)) = h from funext ea, show (fun k => b (ix2 0 k)) = g from funext eb]

/-- The normalised block for the next point. -/
theorem next_rms (c : Dev nD) (s : Fin cfg0.N) (r : Fin 512) (k : Fin 2048) :
    rms (fun k => (show FVec Ideal S512x2048 .f32 from iblk m c 0 s) (ix2 r k)) (fun k => (show FVec Ideal S1x2048 .f32 from iblk m c 2 s) (ix2 0 k)) k
      = NR m c (min (s.val + 1) 63 * 512 + r.val) k := by
  have e0 := x0_apply m c s
  have e2 := x2_apply m c s
  generalize (show FVec Ideal S512x2048 .f32 from iblk m c 0 s) = a at e0 ⊢
  generalize (show FVec Ideal S1x2048 .f32 from iblk m c 2 s) = b at e2 ⊢
  rw [show (fun k => a (ix2 r k)) = hrow m c (min (s.val + 1) 63 * 512 + r.val) from funext fun k => e0 r k,
    show (fun k => b (ix2 0 k)) = fun k => G m c (ix2 0 k) from funext e2]
  rfl

/-- An even point leaves the next tile in the second scratch. -/
theorem even_next (c : Dev nD) (s : Fin cfg0.N) (hs : s.val % 2 = 0) (r : Fin 512) (k : Fin 2048) :
    (outsAt0 m c s.val s.isLt).2.2.2.2 (ix2 r k) = NR m c (min (s.val + 1) 63 * 512 + r.val) k := by
  by_cases h0 : s.val % 64 = 0
  · exact (shA m c s h0 (by omega) hs (by omega) r k).trans (next_rms m c s r k)
  · by_cases h1 : s.val % 16 = 0
    · exact (shD m c s h0 h1 hs (by omega) r k).trans (next_rms m c s r k)
    · exact (shC m c s h0 h1 hs (by omega) r k).trans (next_rms m c s r k)

/-- An odd point leaves it in the first. -/
theorem odd_next (c : Dev nD) (s : Fin cfg0.N) (hs : s.val % 2 = 1) (r : Fin 512) (k : Fin 2048) :
    (outsAt0 m c s.val s.isLt).2.2.2.1 (ix2 r k) = NR m c (min (s.val + 1) 63 * 512 + r.val) k :=
  (shB m c s (by omega) (by omega) (by omega) hs r k).trans (next_rms m c s r k)

/-- An odd point reads its own tile. -/
theorem hB (c : Dev nD) (t : Fin cfg0.N) (ht : t.val % 2 = 1) (r : Fin 512) (k : Fin 2048) :
    (show FVec Ideal S512x2048 .bf16 from (outsAt0 m c (t.val - 1) (Nat.lt_of_le_of_lt (Nat.sub_le _ _) t.isLt)).2.2.2.2) (ix2 r k) = NR m c (t.val * 512 + r.val) k := by
  have hN : t.val < 64 := t.isLt
  refine (even_next m c ⟨t.val - 1, Nat.lt_of_le_of_lt (Nat.sub_le _ _) t.isLt⟩ (by show (t.val - 1) % 2 = 0; omega) r k).trans ?_
  exact congrArg (fun i => NR m c (i * 512 + r.val) k) (by show min (t.val - 1 + 1) 63 = t.val; omega)

/-- So does an even point after the first. -/
theorem hCD (c : Dev nD) (t : Fin cfg0.N) (ht : t.val % 2 = 0) (h0 : ¬t.val % 64 = 0) (r : Fin 512) (k : Fin 2048) :
    (show FVec Ideal S512x2048 .bf16 from (outsAt0 m c (t.val - 1) (Nat.lt_of_le_of_lt (Nat.sub_le _ _) t.isLt)).2.2.2.1) (ix2 r k) = NR m c (t.val * 512 + r.val) k := by
  have hN : t.val < 64 := t.isLt
  refine (odd_next m c ⟨t.val - 1, Nat.lt_of_le_of_lt (Nat.sub_le _ _) t.isLt⟩ (by show (t.val - 1) % 2 = 1; omega) r k).trans ?_
  exact congrArg (fun i => NR m c (i * 512 + r.val) k) (by show min (t.val - 1 + 1) 63 = t.val; omega)

/-- The first point normalises its own tile. -/
theorem hA (c : Dev nD) (t : Fin cfg0.N) (h0 : t.val % 64 = 0) (r : Fin 512) (k : Fin 2048) :
    (show FVec Ideal S512x2048 .bf16 from k0_pay2 (F := Ideal) (iblk m c 1 t) (iblk m c 2 t)) (ix2 r k) = NR m c (t.val * 512 + r.val) k := by
  have hN : t.val < 64 := t.isLt
  have e0 := x1_apply m c t
  have e2 := x2_apply m c t
  refine (pay2_apply (iblk m c 1 t) (iblk m c 2 t) r k).trans ?_
  exact rms_of (iblk m c 1 t) (iblk m c 2 t) _ _ r k (fun k => (e0 r k).trans (congrArg (fun i => hrow m c i k) (by omega))) e2

/-- The rows a point carries on are the last eight of its tile. -/
theorem carried (c : Dev nD) (s : Fin cfg0.N) (rr : Fin 520) (n : Fin 1024) (hr : rr.val < 8) :
    (outsAt0 m c s.val s.isLt).2.2.1 (ix2 rr n) = PR m c (s.val * 512 + (504 + rr.val)) (2304 + n.val) := by
  by_cases h2 : s.val % 2 = 1
  · exact (scB m c s (by omega) (by omega) (by omega) h2 rr n hr).trans (pcol_eq m c s s.val _ (hB m c s h2) _ (by omega) _)
  · by_cases h0 : s.val % 64 = 0
    · exact (scA m c s h0 (by omega) (by omega) h2 rr n hr).trans (pcol_eq m c s s.val _ (hA m c s h0) _ (by omega) _)
    · by_cases h1 : s.val % 16 = 0
      · exact (scD m c s h0 h1 (by omega) h2 rr n hr).trans (pcol_eq m c s s.val _ (hCD m c s (by omega) h0) _ (by omega) _)
      · exact (scC m c s h0 h1 (by omega) h2 rr n hr).trans (pcol_eq m c s s.val _ (hCD m c s (by omega) h0) _ (by omega) _)

/-- The buffer over carried rows reads the projected rows back in the sequence. -/
theorem back_carry (c : Dev nD) (t : Fin cfg0.N) (h1 : ¬t.val % 16 = 0) (hn : FVec Ideal S512x2048 .bf16) (hh : ∀ (r : Fin 512) (k : Fin 2048), hn (ix2 r k) = NR m c (t.val * 512 + r.val) k)
    (r : Fin 512) (d : Fin 4) (n : ℕ) (hn' : n < 1024) :
    cv hn (show FVec Ideal S1x2048x4480 .bf16 from iblk m c 3 t) (fun rr n => PR m c ((t.val - 1) * 512 + (504 + rr)) (2304 + n)) (8 + r.val - d.val) n
      = QR m c (t.val * 512 + r.val) d.val (2304 + n) := by
  have hN : t.val < 64 := t.isLt
  unfold cv QR
  by_cases h : 8 + r.val - d.val < 8
  · rw [if_pos h, if_pos (by omega)]
    exact congrArg (fun i => PR m c i (2304 + n)) (by omega)
  · rw [if_neg h, if_pos (by omega), pcol_eq m c t t.val hn hh _ (by omega)]
    exact congrArg (fun i => PR m c i (2304 + n)) (by omega)

/-- Over rows of zeros it reads them at the start of a sequence. -/
theorem back_zero (c : Dev nD) (t : Fin cfg0.N) (h1 : t.val % 16 = 0) (hn : FVec Ideal S512x2048 .bf16) (hh : ∀ (r : Fin 512) (k : Fin 2048), hn (ix2 r k) = NR m c (t.val * 512 + r.val) k)
    (r : Fin 512) (d : Fin 4) (n : ℕ) (hn' : n < 1024) :
    cv hn (show FVec Ideal S1x2048x4480 .bf16 from iblk m c 3 t) (fun _ _ => 0) (8 + r.val - d.val) n
      = QR m c (t.val * 512 + r.val) d.val (2304 + n) := by
  unfold cv QR
  by_cases h : 8 + r.val - d.val < 8
  · rw [if_pos h, if_neg (by omega)]
  · rw [if_neg h, if_pos (by omega), pcol_eq m c t t.val hn hh _ (by omega)]
    exact congrArg (fun i => PR m c i (2304 + n)) (by omega)

/-- The tables of a point hold the rotation's factors of its rows. -/
theorem tab (c : Dev nD) (t : Fin cfg0.N) (r : Fin 512) :
    Tab (show FVec Ideal S512x128 .f32 from iblk m c 4 t) (show FVec Ideal S512x128 .f32 from iblk m c 5 t) (show FVec Ideal S512x128 .f32 from iblk m c 6 t) r
      (cosT ((t.val * 512 + r.val) % 8192)) (sinT ((t.val * 512 + r.val) % 8192)) := by
  have e : (t.val * 512 + r.val) % 8192 = t.val % 16 * 512 + r.val := by omega
  rw [e]
  exact ⟨fun j => x4_apply m c t r j, fun j => x5_apply m c t r j, fun j => x6_apply m c t r j⟩

/-- The row of the output block is the problem's row. -/
theorem outRow_eq (c : Dev nD) (t : Fin cfg0.N) (hn : FVec Ideal S512x2048 .bf16) (hh : ∀ (r : Fin 512) (k : Fin 2048), hn (ix2 r k) = NR m c (t.val * 512 + r.val) k)
    (r : Fin 512) (l : Fin 4352) :
    outRow hn (show FVec Ideal S1x2048x4480 .bf16 from iblk m c 3 t) (show FVec Ideal S1x512 .f32 from iblk m c 7 t) (show FVec Ideal S4x1024 .f32 from iblk m c 8 t) r l
        (QR m c (t.val * 512 + r.val)) (cosT ((t.val * 512 + r.val) % 8192)) (sinT ((t.val * 512 + r.val) % 8192))
      = R10 m c (t.val * 512 + r.val) l.val := by
  have ep : pcol hn (show FVec Ideal S1x2048x4480 .bf16 from iblk m c 3 t) r.val = PR m c (t.val * 512 + r.val) := funext fun n => pcol_eq m c t t.val hn hh _ r.isLt n
  have e7 := x7_apply m c t
  have e8 := x8_apply m c t
  unfold outRow R10
  rw [ep]
  generalize (show FVec Ideal S1x512 .f32 from iblk m c 7 t) = a at e7 ⊢
  generalize (show FVec Ideal S4x1024 .f32 from iblk m c 8 t) = b at e8 ⊢
  simp only [e7, e8]

/-- A point's output block holds its rows. -/
theorem blk10 (c : Dev nD) (t : Fin cfg0.N) (r : Fin 512) (l : Fin 4352) : (outsAt0 m c t.val t.isLt).1 (ix2 r l) = R10 m c (t.val * 512 + r.val) l.val := by
  have hp : ∀ (rr : Fin 520) (n : Fin 1024), rr.val < 8 → (show FVec Ideal S520x1024 .f32 from (outsAt0 m c (t.val - 1) (Nat.lt_of_le_of_lt (Nat.sub_le _ _) t.isLt)).2.2.1) (ix2 rr n) = PR m c ((t.val - 1) * 512 + (504 + rr.val)) (2304 + n.val) :=
    fun rr n h => carried m c ⟨t.val - 1, Nat.lt_of_le_of_lt (Nat.sub_le _ _) t.isLt⟩ rr n h
  by_cases h2 : t.val % 2 = 1
  · exact (o10B m c t r l _ _ _ (fun rr n => PR m c ((t.val - 1) * 512 + (504 + rr)) (2304 + n)) (by omega) (by omega) (by omega) h2 hp (tab m c t r) (back_carry m c t (by omega) _ (hB m c t h2) r)).trans
      (outRow_eq m c t _ (hB m c t h2) r l)
  · by_cases h0 : t.val % 64 = 0
    · exact (o10A m c t r l _ _ _ h0 (by omega) (by omega) h2 (tab m c t r) (back_zero m c t (by omega) _ (hA m c t h0) r)).trans (outRow_eq m c t _ (hA m c t h0) r l)
    · by_cases h1 : t.val % 16 = 0
      · exact (o10D m c t r l _ _ _ h0 h1 (by omega) h2 (tab m c t r) (back_zero m c t h1 _ (hCD m c t (by omega) h0) r)).trans (outRow_eq m c t _ (hCD m c t (by omega) h0) r l)
      · exact (o10C m c t r l _ _ _ (fun rr n => PR m c ((t.val - 1) * 512 + (504 + rr)) (2304 + n)) h0 h1 (by omega) h2 hp (tab m c t r) (back_carry m c t h1 _ (hCD m c t (by omega) h0) r)).trans
          (outRow_eq m c t _ (hCD m c t (by omega) h0) r l)

/-- The gates of a tile are the problem's. -/
theorem gates_eq (c : Dev nD) (t : Fin cfg0.N) (hn : FVec Ideal S512x2048 .bf16) (hh : ∀ (r : Fin 512) (k : Fin 2048), hn (ix2 r k) = NR m c (t.val * 512 + r.val) k)
    (r : Fin 512) (l : Fin 128) :
    gate (pcol hn (show FVec Ideal S1x2048x4480 .bf16 from iblk m c 3 t) r.val) (fun j => IB m c (ix2 0 ⟨j % 4, by omega⟩)) (fun j => FB m c (ix2 0 ⟨j % 4, by omega⟩)) l.val
      = R11 m c (t.val * 512 + r.val) l.val := by
  rw [show pcol hn (show FVec Ideal S1x2048x4480 .bf16 from iblk m c 3 t) r.val = PR m c (t.val * 512 + r.val) from funext fun n => pcol_eq m c t t.val hn hh _ r.isLt n]
  rfl

/-- The weights past the last column give zero. -/
theorem past (c : Dev nD) (t : Fin cfg0.N) (hn : FVec Ideal S512x2048 .bf16) (hh : ∀ (r : Fin 512) (k : Fin 2048), hn (ix2 r k) = NR m c (t.val * 512 + r.val) k)
    (r : Fin 512) (n : ℕ) (h : 4360 ≤ n) : pcol hn (show FVec Ideal S1x2048x4480 .bf16 from iblk m c 3 t) r.val n = 0 := by
  rw [pcol_eq m c t t.val hn hh _ r.isLt n, PR, prow, dif_neg (by omega)]

/-- A point's block of gates holds its rows. -/
theorem blk11 (c : Dev nD) (t : Fin cfg0.N) (r : Fin 512) (l : Fin 128) : (outsAt0 m c t.val t.isLt).2.1 (ix2 r l) = R11 m c (t.val * 512 + r.val) l.val := by
  have h9 := x9_apply m c t
  by_cases h2 : t.val % 2 = 1
  · exact (o11B m c t (by omega) (by omega) (by omega) h2 (fun j => IB m c (ix2 0 ⟨j % 4, by omega⟩)) (fun j => FB m c (ix2 0 ⟨j % 4, by omega⟩)) r l h9 (past m c t _ (hB m c t h2) r)).trans
      (gates_eq m c t _ (hB m c t h2) r l)
  · by_cases h0 : t.val % 64 = 0
    · exact (o11A m c t h0 (by omega) (by omega) h2 (fun j => IB m c (ix2 0 ⟨j % 4, by omega⟩)) (fun j => FB m c (ix2 0 ⟨j % 4, by omega⟩)) r l h9 (past m c t _ (hA m c t h0) r)).trans
        (gates_eq m c t _ (hA m c t h0) r l)
    · by_cases h1 : t.val % 16 = 0
      · exact (o11D m c t h0 h1 (by omega) h2 (fun j => IB m c (ix2 0 ⟨j % 4, by omega⟩)) (fun j => FB m c (ix2 0 ⟨j % 4, by omega⟩)) r l h9 (past m c t _ (hCD m c t (by omega) h0) r)).trans
          (gates_eq m c t _ (hCD m c t (by omega) h0) r l)
      · exact (o11C m c t h0 h1 (by omega) h2 (fun j => IB m c (ix2 0 ⟨j % 4, by omega⟩)) (fun j => FB m c (ix2 0 ⟨j % 4, by omega⟩)) r l h9 (past m c t _ (hCD m c t (by omega) h0) r)).trans
          (gates_eq m c t _ (hCD m c t (by omega) h0) r l)

end Cert.Kernel3Ideal.InProj

end
-- ==== Proof.InProj.Final.lean ====
/- The two result arrays of the projection call: the projection and the gates, row by row. -/
module

public import proofs.«01_k».proof.Proof.InProj.Rows
public import Idealize.ShloMosaic.Lib.Claim

@[expose] public section

set_option maxRecDepth 16384

noncomputable section

namespace Cert.Kernel3Ideal.InProj

open Idealize.ShloMosaic Idealize.ShloMosaic.TcCoe Idealize.SL.Sem
open Idealize.ShloMosaic.Pipeline (Dat)
open Cert.Kernel3Ideal Cert.Kernel3Ideal.Gen Cert.InMath Cert.FfnMath

variable (m : (ℓ : Loc nD τ sig) → Buf (Elt Ideal) ℓ)

/-- The array of projected rows: every row's queries, keys, values and the other columns. -/
def OUT10 (c : Dev nD) : FVec Ideal S32768x4352 .bf16 := fun i => R10 m c (i 0).val (i 1).val

/-- After its last point the call's array holds it. -/
theorem final10 (c : Dev nD) : (dats m 0 c).arrAt 10 cfg0.N = OUT10 m c := by
  refine (dats m 0 c).arrAt_eq_of_covers 10 _ (by decide +kernel) fun t hf y => ?_
  blk_simp
  rw [after0_10]
  obtain ⟨e0, e1, e2, e3, e4, e5, e6, e7, e8, e9, e10, e11, hN⟩ := idx t
  idx_vars y
  refine (blk10 m c t y0 y1).trans ?_
  have hv : ((cfg0.win 10).blk t).view.emb (ix2 y0 y1) = (ix2 ⟨t.val * 512 + y0.val, by omega⟩ y1 : S32768x4352.Idx) := by
    blk_ext [e10]
  rw [hv]
  rfl

/-- The array of gates. -/
def OUT11 (c : Dev nD) : FVec Ideal S32768x128 .f32 := fun i => R11 m c (i 0).val (i 1).val

/-- After its last point the call's array holds it. -/
theorem final11 (c : Dev nD) : (dats m 0 c).arrAt 11 cfg0.N = OUT11 m c := by
  refine (dats m 0 c).arrAt_eq_of_covers 11 _ (by decide +kernel) fun t hf y => ?_
  blk_simp
  rw [after0_11]
  obtain ⟨e0, e1, e2, e3, e4, e5, e6, e7, e8, e9, e10, e11, hN⟩ := idx t
  idx_vars y
  refine (blk11 m c t y0 y1).trans ?_
  have hv : ((cfg0.win 11).blk t).view.emb (ix2 y0 y1) = (ix2 ⟨t.val * 512 + y0.val, by omega⟩ y1 : S32768x128.Idx) := by
    blk_ext [e11]
  rw [hv]
  rfl

end Cert.Kernel3Ideal.InProj

end
-- ==== Proof.InProj.Ref.lean ====
/- The reference's two results, entry by entry, as the functions `entry` and `gate` of the projected rows. -/
module

public import proofs.«01_k».proof.Proof.Gen.Reference3Ideal.Read
public import proofs.«01_k».proof.Proof.InProj.Math

@[expose] public section

set_option maxRecDepth 16384

noncomputable section

namespace Cert.Reference3Ideal.InProj

open Idealize.ShloMosaic Idealize.ShloMosaic.TcCoe Idealize.SL.Sem
open Cert.Reference3Ideal Cert.Reference3Ideal.Gen Cert.InMath Cert.FfnMath

variable (A0 : FVec Ideal S4x8192x2048 .f32) (A1 : FVec Ideal S4x2048 .f32) (A2 : FVec Ideal S4x2048x4360 .f32)
  (A3 : FVec Ideal S4x512 .f32) (A4 : FVec Ideal S4x4x1024 .f32) (A5 A6 : FVec Ideal S4x4 .f32)

/-- The projected row at position `s` of sequence `b`. -/
def P (b : Fin 4) (s : Fin 8192) (n : ℕ) : EReal :=
  prow (fun k => A0 (ix3 b s k)) (fun k => A1 (ix2 0 k)) (fun k n => A2 (ix3 0 k n)) n

/-- The projected row `d` positions back, zero before the start. -/
def Q (b : Fin 4) (s : Fin 8192) (d n : ℕ) : EReal := if d ≤ s.val then P A0 A1 A2 b ⟨s.val - d, by omega⟩ n else 0

/-- The cosine of the rotation. -/
theorem v16_apply (s : Fin 8192) (j : Fin 8) :
    Read.val_main_v16 (F := Ideal) (ix2 s j)
      = cosT s.val j.val := by
  pointwise [Read.val_main_v16, Read.val_main_v15, Read.val_main_v14, Read.val_main_v13, Read.val_main_v12, Read.val_main_v11, Read.val_main_v10, Read.val_main_v9, Read.val_main_v8, Read.val_main_cst_2, Read.val_main_v7, Read.val_main_v6, Read.val_main_cst_1, Read.val_main_v5, Read.val_main_v4, Read.val_main_v3, Read.val_main_cst_0, Read.val_main_v2, Read.val_main_v1, Read.val_main_cst, Read.val_main_v0, cosT, ang]

/-- The sine of the rotation. -/
theorem v17_apply (s : Fin 8192) (j : Fin 8) :
    Read.val_main_v17 (F := Ideal) (ix2 s j)
      = sinT s.val j.val := by
  pointwise [Read.val_main_v17, Read.val_main_v15, Read.val_main_v14, Read.val_main_v13, Read.val_main_v12, Read.val_main_v11, Read.val_main_v10, Read.val_main_v9, Read.val_main_v8, Read.val_main_cst_2, Read.val_main_v7, Read.val_main_v6, Read.val_main_cst_1, Read.val_main_v5, Read.val_main_v4, Read.val_main_v3, Read.val_main_cst_0, Read.val_main_v2, Read.val_main_v1, Read.val_main_cst, Read.val_main_v0, sinT, ang]

/-- The normalised row. -/
theorem v32_apply (b : Fin 4) (s : Fin 8192) (k : Fin 2048) :
    Read.val_main_v32 (F := Ideal) A0 A1 (ix3 b s k)
      = rms (fun k => A0 (ix3 b s k)) (fun k => A1 (ix2 0 k)) k := by
  pointwise [Read.val_main_v32, Read.val_main_v31, Read.val_main_v30, Read.val_main_v29, Read.val_main_v28, Read.val_main_v27, Read.val_main_v26, Read.val_main_v25, Read.val_main_cst_5, Read.val_main_v24, Read.val_main_v23, Read.val_main_cst_4, Read.val_main_v22, Read.val_main_v21, Read.val_main_cst_3, Read.val_main_v20, Read.val_main_v19, Read.val_main_v18, rms]

/-- The projected row. -/
theorem v35_apply (b : Fin 4) (s : Fin 8192) (n : Fin 4360) :
    Read.val_main_v35 (F := Ideal) A0 A1 A2 (ix3 b s n)
      = P A0 A1 A2 b s n.val := by
  pointwise [Read.val_main_v35, Read.val_main_v34, Read.val_main_v33, v32_apply, P, prow]

/-- The columns of the gated part. -/
theorem v36_apply (b : Fin 4) (s : Fin 8192) (j : Fin 512) :
    Read.val_main_v36 (F := Ideal) A0 A1 A2 (ix3 b s j)
      = P A0 A1 A2 b s (0 + j.val) := by
  pointwise [Read.val_main_v36, v35_apply]

/-- The columns of the gating part. -/
theorem v37_apply (b : Fin 4) (s : Fin 8192) (j : Fin 512) :
    Read.val_main_v37 (F := Ideal) A0 A1 A2 (ix3 b s j)
      = P A0 A1 A2 b s (512 + j.val) := by
  pointwise [Read.val_main_v37, v35_apply]

/-- The columns of the queries. -/
theorem v38_apply (b : Fin 4) (s : Fin 8192) (j : Fin 1024) :
    Read.val_main_v38 (F := Ideal) A0 A1 A2 (ix3 b s j)
      = P A0 A1 A2 b s (1024 + j.val) := by
  pointwise [Read.val_main_v38, v35_apply]

/-- The columns of the keys. -/
theorem v39_apply (b : Fin 4) (s : Fin 8192) (j : Fin 128) :
    Read.val_main_v39 (F := Ideal) A0 A1 A2 (ix3 b s j)
      = P A0 A1 A2 b s (2048 + j.val) := by
  pointwise [Read.val_main_v39, v35_apply]

/-- The columns of the values. -/
theorem v40_apply (b : Fin 4) (s : Fin 8192) (j : Fin 128) :
    Read.val_main_v40 (F := Ideal) A0 A1 A2 (ix3 b s j)
      = P A0 A1 A2 b s (2176 + j.val) := by
  pointwise [Read.val_main_v40, v35_apply]

/-- The columns of the memory's queries and keys. -/
theorem v41_apply (b : Fin 4) (s : Fin 8192) (j : Fin 1024) :
    Read.val_main_v41 (F := Ideal) A0 A1 A2 (ix3 b s j)
      = P A0 A1 A2 b s (2304 + j.val) := by
  pointwise [Read.val_main_v41, v35_apply]

/-- The columns of the memory's values. -/
theorem v42_apply (b : Fin 4) (s : Fin 8192) (j : Fin 512) :
    Read.val_main_v42 (F := Ideal) A0 A1 A2 (ix3 b s j)
      = P A0 A1 A2 b s (3328 + j.val) := by
  pointwise [Read.val_main_v42, v35_apply]

/-- The columns of the output gate. -/
theorem v43_apply (b : Fin 4) (s : Fin 8192) (j : Fin 512) :
    Read.val_main_v43 (F := Ideal) A0 A1 A2 (ix3 b s j)
      = P A0 A1 A2 b s (3840 + j.val) := by
  pointwise [Read.val_main_v43, v35_apply]

/-- The columns of the input gates. -/
theorem v44_apply (b : Fin 4) (s : Fin 8192) (j : Fin 4) :
    Read.val_main_v44 (F := Ideal) A0 A1 A2 (ix3 b s j)
      = P A0 A1 A2 b s (4352 + j.val) := by
  pointwise [Read.val_main_v44, v35_apply]

/-- The columns of the forget gates. -/
theorem v45_apply (b : Fin 4) (s : Fin 8192) (j : Fin 4) :
    Read.val_main_v45 (F := Ideal) A0 A1 A2 (ix3 b s j)
      = P A0 A1 A2 b s (4356 + j.val) := by
  pointwise [Read.val_main_v45, v35_apply]

/-- The gelu of the gated part. -/
theorem v58_apply (b : Fin 4) (s : Fin 8192) (j : Fin 512) :
    Read.val_main_v58 (F := Ideal) A0 A1 A2 (ix3 b s j)
      = gelu (P A0 A1 A2 b s (0 + j.val)) := by
  pointwise [Read.val_main_v58, Read.val_main_v57, Read.val_main_v56, Read.val_main_cst_9, Read.val_main_v55, Read.val_main_v54, Read.val_main_cst_8, Read.val_main_v53, Read.val_main_v52, Read.val_main_v51, Read.val_main_cst_7, Read.val_main_v50, Read.val_main_v49, Read.val_main_v48, Read.val_main_cst_6, Read.val_main_v47, Read.val_main_v46, v36_apply, gelu]

/-- The gelu of the gating part. -/
theorem v71_apply (b : Fin 4) (s : Fin 8192) (j : Fin 512) :
    Read.val_main_v71 (F := Ideal) A0 A1 A2 (ix3 b s j)
      = gelu (P A0 A1 A2 b s (512 + j.val)) := by
  pointwise [Read.val_main_v71, Read.val_main_v70, Read.val_main_v69, Read.val_main_cst_13, Read.val_main_v68, Read.val_main_v67, Read.val_main_cst_12, Read.val_main_v66, Read.val_main_v65, Read.val_main_v64, Read.val_main_cst_11, Read.val_main_v63, Read.val_main_v62, Read.val_main_v61, Read.val_main_cst_10, Read.val_main_v60, Read.val_main_v59, v37_apply, gelu]

/-- The normalised gating part. -/
theorem v86_apply (b : Fin 4) (s : Fin 8192) (j : Fin 512) :
    Read.val_main_v86 (F := Ideal) A0 A1 A2 A3 (ix3 b s j)
      = gelu (P A0 A1 A2 b s (512 + j.val)) * Ideal.rsqrt (Ideal.div (∑ j : Fin 512, gelu (P A0 A1 A2 b s (512 + j.val)) * gelu (P A0 A1 A2 b s (512 + j.val))) (Ideal.ofBits .f32 0x44000000#32) + Ideal.ofBits .f32 0x358637BD#32) * A3 (ix2 0 j) := by
  pointwise [Read.val_main_v86, Read.val_main_v85, Read.val_main_v84, Read.val_main_v83, Read.val_main_v82, Read.val_main_v81, Read.val_main_v80, Read.val_main_v79, Read.val_main_cst_16, Read.val_main_v78, Read.val_main_v77, Read.val_main_cst_15, Read.val_main_v76, Read.val_main_v75, Read.val_main_cst_14, Read.val_main_v74, Read.val_main_v73, Read.val_main_v72, v71_apply]

/-- The rotated and scaled queries, head by head. -/
theorem v106_apply (b : Fin 4) (s : Fin 8192) (h : Fin 16) (d : Fin 64) :
    Read.val_main_v106 (F := Ideal) A0 A1 A2 (ix4 b s h d)
      = rotv (fun d => P A0 A1 A2 b s (1024 + (h.val * 64 + d))) (cosT s.val) (sinT s.val) d.val * Ideal.ofBits .f32 0x3E38AA3B#32 := by
  pointwise [Read.val_main_v106, Read.val_main_v105, Read.val_main_cst_17, Read.val_main_v104, Read.val_main_v103, Read.val_main_v102, Read.val_main_v101, Read.val_main_v100, Read.val_main_v99, Read.val_main_v98, Read.val_main_v97, Read.val_main_v96, Read.val_main_v95, Read.val_main_v94, Read.val_main_v93, Read.val_main_v92, Read.val_main_v91, Read.val_main_v90, Read.val_main_v89, Read.val_main_v88, Read.val_main_v87, v38_apply, v16_apply, v17_apply, rotv]
  by_cases h1 : d.val < 8
  · rw [dif_pos h1, if_pos h1, Nat.add_comm 8 d.val]
  · rw [dif_neg h1, if_neg h1]
    by_cases h2 : d.val - 8 < 8
    · rw [dif_pos h2, if_pos (by omega), (by omega : 8 + (d.val - 8) = d.val)]
    · rw [dif_neg h2, if_neg (by omega), (by omega : 16 + (d.val - 8 - 8) = d.val)]

/-- The rotated keys, head by head. -/
theorem v124_apply (b : Fin 4) (s : Fin 8192) (h : Fin 2) (d : Fin 64) :
    Read.val_main_v124 (F := Ideal) A0 A1 A2 (ix4 b s h d)
      = rotv (fun d => P A0 A1 A2 b s (2048 + (h.val * 64 + d))) (cosT s.val) (sinT s.val) d.val := by
  pointwise [Read.val_main_v124, Read.val_main_v123, Read.val_main_v122, Read.val_main_v121, Read.val_main_v120, Read.val_main_v119, Read.val_main_v118, Read.val_main_v117, Read.val_main_v116, Read.val_main_v115, Read.val_main_v114, Read.val_main_v113, Read.val_main_v112, Read.val_main_v111, Read.val_main_v110, Read.val_main_v109, Read.val_main_v108, Read.val_main_v107, v39_apply, v16_apply, v17_apply, rotv]
  by_cases h1 : d.val < 8
  · rw [dif_pos h1, if_pos h1, Nat.add_comm 8 d.val]
  · rw [dif_neg h1, if_neg h1]
    by_cases h2 : d.val - 8 < 8
    · rw [dif_pos h2, if_pos (by omega), (by omega : 8 + (d.val - 8) = d.val)]
    · rw [dif_neg h2, if_neg (by omega), (by omega : 16 + (d.val - 8 - 8) = d.val)]

/-- The integer zero as a float is zero. -/
theorem sitofp_zero : (FloatOps.sitofp (F := Ideal) FTy.f32 (0#32) : EReal) = 0 := by
  show (((0#32).toInt : ℝ) : EReal) = 0
  simp

/-- The short convolution. -/
theorem v154_apply (b : Fin 4) (s : Fin 8192) (j : Fin 1024) :
    Read.val_main_v154 (F := Ideal) A0 A1 A2 A4 (ix3 b s j)
      = conv (fun d => Q A0 A1 A2 b s d (2304 + j.val)) (fun t => A4 (ix3 0 ⟨t % 4, by omega⟩ j)) := by
  pointwise [Read.val_main_v154, Read.val_main_v153, Read.val_main_v152, Read.val_main_v151, Read.val_main_v150, Read.val_main_v149, Read.val_main_v148, Read.val_main_v147, Read.val_main_v146, Read.val_main_v145, Read.val_main_v144, Read.val_main_v143, Read.val_main_v142, Read.val_main_v141, Read.val_main_v140, Read.val_main_v139, Read.val_main_v138, Read.val_main_v137, Read.val_main_v136, Read.val_main_v135, Read.val_main_v134, Read.val_main_v133, Read.val_main_v132, Read.val_main_v131, Read.val_main_v130, Read.val_main_v129, Read.val_main_v128, Read.val_main_v127, Read.val_main_call0_v0, Read.val_main_c, Read.val_main_v126, Read.val_main_v125, v41_apply, conv, Q]
  have z : (FloatOps.sitofp (F := Ideal) FTy.f32 (0#32) : EReal) = 0 := sitofp_zero
  rw [z]
  refine congrArg (· + _) (congrArg₂ (· + ·) (congrArg₂ (· + ·) (congrArg (· * _) ?_) (congrArg (· * _) ?_)) (congrArg (· * _) ?_))
  · by_cases h : 3 ≤ s.val
    · rw [dif_pos ⟨h, by omega⟩, if_pos h]
    · rw [dif_neg (by omega), if_neg h]
  · by_cases h : 2 ≤ s.val
    · rw [dif_pos ⟨by omega, by omega⟩, if_pos h]
      exact congrArg (fun q => P A0 A1 A2 b q (2304 + j.val)) (Fin.ext (by show 1 + s.val - 3 = s.val - 2; omega))
    · rw [dif_neg (by omega), if_neg h]
  · by_cases h : 1 ≤ s.val
    · rw [dif_pos ⟨by omega, by omega⟩, if_pos h]
      exact congrArg (fun q => P A0 A1 A2 b q (2304 + j.val)) (Fin.ext (by show 2 + s.val - 3 = s.val - 1; omega))
    · rw [dif_neg (by omega), if_neg h]

/-- The silu of the convolution. -/
theorem v155_apply (b : Fin 4) (s : Fin 8192) (j : Fin 1024) :
    Read.val_main_v155 (F := Ideal) A0 A1 A2 A4 (ix3 b s j)
      = silu (conv (fun d => Q A0 A1 A2 b s d (2304 + j.val)) (fun t => A4 (ix3 0 ⟨t % 4, by omega⟩ j))) := by
  pointwise [Read.val_main_v155, Read.val_main_call1_v5, Read.val_main_call1_v4, Read.val_main_call1_cst_0, Read.val_main_call1_v3, Read.val_main_call1_v2, Read.val_main_call1_cst, Read.val_main_call1_v1, Read.val_main_call1_v0, v154_apply, silu, Ideal.logistic]

/-- The output gate. -/
theorem v165_apply (b : Fin 4) (s : Fin 8192) (j : Fin 512) :
    Read.val_main_v165 (F := Ideal) A0 A1 A2 (ix3 b s j)
      = Ideal.logistic (P A0 A1 A2 b s (3840 + j.val)) := by
  pointwise [Read.val_main_v165, Read.val_main_v164, Read.val_main_cst_20, Read.val_main_v163, Read.val_main_v162, Read.val_main_cst_19, Read.val_main_v161, Read.val_main_v160, v43_apply, Ideal.logistic]

/-- The input gates. -/
theorem v170_apply (b : Fin 4) (s : Fin 8192) (j : Fin 4) :
    Read.val_main_v170 (F := Ideal) A0 A1 A2 A5 (ix3 b s j)
      = P A0 A1 A2 b s (4352 + j.val) + A5 (ix2 0 j) := by
  pointwise [Read.val_main_v170, Read.val_main_v169, Read.val_main_v168, Read.val_main_v167, Read.val_main_v166, v44_apply]

/-- The forget gates. -/
theorem v176_apply (b : Fin 4) (s : Fin 8192) (j : Fin 4) :
    Read.val_main_v176 (F := Ideal) A0 A1 A2 A6 (ix3 b s j)
      = lsig (P A0 A1 A2 b s (4356 + j.val) + A6 (ix2 0 j)) := by
  pointwise [Read.val_main_v176, Read.val_main_call2_v1, Read.val_main_call2_call0_v11, Read.val_main_call2_call0_v10, Read.val_main_call2_call0_v9, Read.val_main_call2_call0_v8, Read.val_main_call2_call0_v7, Read.val_main_call2_call0_v6, Read.val_main_call2_call0_v5, Read.val_main_call2_call0_v4, Read.val_main_call2_call0_v3, Read.val_main_call2_call0_v2, Read.val_main_call2_call0_v1, Read.val_main_call2_call0_v0, Read.val_main_call2_call0_cst, Read.val_main_call2_v0, Read.val_main_v175, Read.val_main_v174, Read.val_main_v173, Read.val_main_v172, Read.val_main_v171, v45_apply, lsig]
  rw [if_neg (fun h => h rfl)]
  rfl

/-- The rotated queries. -/
theorem v177_apply (b : Fin 4) (s : Fin 8192) (j : Fin 1024) :
    Read.val_main_v177 (F := Ideal) A0 A1 A2 (ix3 b s j)
      = rot (P A0 A1 A2 b s) (cosT s.val) (sinT s.val) (1024 + j.val) * Ideal.ofBits .f32 0x3E38AA3B#32 := by
  pointwise [Read.val_main_v177, v106_apply, rot]
  have h1 : (1024 + j.val) / 64 * 64 = 1024 + j.val / 64 * 64 := by omega
  have h2 : (1024 + j.val) % 64 = j.val % 64 := by omega
  rw [h1, h2]
  simp only [Nat.add_assoc]

/-- The rotated keys. -/
theorem v178_apply (b : Fin 4) (s : Fin 8192) (j : Fin 128) :
    Read.val_main_v178 (F := Ideal) A0 A1 A2 (ix3 b s j)
      = rot (P A0 A1 A2 b s) (cosT s.val) (sinT s.val) (2048 + j.val) := by
  pointwise [Read.val_main_v178, v124_apply, rot]
  have h1 : (2048 + j.val) / 64 * 64 = 2048 + j.val / 64 * 64 := by omega
  have h2 : (2048 + j.val) % 64 = j.val % 64 := by omega
  rw [h1, h2]
  simp only [Nat.add_assoc]

set_option maxHeartbeats 2000000 in
/-- The row the call writes. -/
theorem v179_apply (b : Fin 4) (s : Fin 8192) (l : Fin 4352) :
    Read.val_main_v179 (F := Ideal) A0 A1 A2 A3 A4 (ix3 b s l)
      = entry (P A0 A1 A2 b s) (Q A0 A1 A2 b s) (cosT s.val) (sinT s.val) (fun j => A3 (ix2 0 ⟨j % 512, by omega⟩)) (fun t j => A4 (ix3 0 ⟨t % 4, by omega⟩ ⟨j % 1024, by omega⟩)) (Ideal.ofBits .f32 0x3E38AA3B#32) (Ideal.ofBits .f32 0x3DB504F3#32) l.val := by
  pointwise [Read.val_main_v179, Read.val_main_v159, Read.val_main_v158, Read.val_main_v157, Read.val_main_v156, Read.val_main_cst_18, v58_apply, v86_apply, v177_apply, v178_apply, v40_apply, v155_apply, v42_apply, v165_apply]
  by_cases h0 : l.val < 512
  · rw [entry0 (by omega)]
    refine (dif_pos h0).trans ?_
    rfl
  refine (dif_neg h0).trans ?_
  by_cases h1 : l.val - 512 < 512
  · rw [entry1 (by omega) (by omega)]
    refine (dif_pos h1).trans ?_
    exact congrArg₂ (· * ·) (congrArg (fun n => gelu (P A0 A1 A2 b s n) * _) (by omega)) (congrArg (fun j => A3 (ix2 0 j)) (Fin.ext (Nat.mod_eq_of_lt h1).symm))
  refine (dif_neg h1).trans ?_
  by_cases h2 : l.val - 512 - 512 < 1024
  · rw [entry2 (by omega) (by omega)]
    refine (dif_pos h2).trans ?_
    exact congrArg (fun n => rot (P A0 A1 A2 b s) (cosT s.val) (sinT s.val) n * _) (by omega)
  refine (dif_neg h2).trans ?_
  by_cases h3 : l.val - 512 - 512 - 1024 < 128
  · rw [entry3 (by omega) (by omega)]
    refine (dif_pos h3).trans ?_
    exact congrArg (rot (P A0 A1 A2 b s) (cosT s.val) (sinT s.val)) (by omega)
  refine (dif_neg h3).trans ?_
  by_cases h4 : l.val - 512 - 512 - 1024 - 128 < 128
  · rw [entry4 (by omega) (by omega)]
    refine (dif_pos h4).trans ?_
    exact congrArg (P A0 A1 A2 b s) (by omega)
  refine (dif_neg h4).trans ?_
  by_cases h5 : l.val - 512 - 512 - 1024 - 128 - 128 < 512
  · rw [entry5 (by omega) (by omega)]
    refine (dif_pos h5).trans ?_
    refine congrArg (fun x => silu x * Ideal.ofBits .f32 0x3DB504F3#32) (congrArg₂ conv ?_ ?_)
    · exact funext fun d => congrArg (Q A0 A1 A2 b s d) (by omega)
    · exact funext fun t => congrArg (fun j => A4 (ix3 0 ⟨t % 4, by omega⟩ j)) (Fin.ext (by show l.val - 512 - 512 - 1024 - 128 - 128 = (l.val - 2304) % 1024; omega))
  refine (dif_neg h5).trans ?_
  by_cases h6 : l.val - 512 - 512 - 1024 - 128 - 128 - 512 < 512
  · rw [entry6 (by omega) (by omega)]
    refine (dif_pos h6).trans ?_
    refine congrArg silu (congrArg₂ conv ?_ ?_)
    · exact funext fun d => congrArg (Q A0 A1 A2 b s d) (by omega)
    · exact funext fun t => congrArg (fun j => A4 (ix3 0 ⟨t % 4, by omega⟩ j)) (Fin.ext (by show 512 + (l.val - 512 - 512 - 1024 - 128 - 128 - 512) = (l.val - 2304) % 1024; omega))
  refine (dif_neg h6).trans ?_
  by_cases h7 : l.val - 512 - 512 - 1024 - 128 - 128 - 512 - 512 < 512
  · rw [entry7 (by omega) (by omega)]
    refine (dif_pos h7).trans ?_
    exact congrArg (P A0 A1 A2 b s) (by omega)
  refine (dif_neg h7).trans ?_
  rw [entry8 (by omega)]
  exact congrArg (fun n => Ideal.logistic (P A0 A1 A2 b s n)) (by omega)

/-- The row of gates. -/
theorem v181_apply (b : Fin 4) (s : Fin 8192) (l : Fin 128) :
    Read.val_main_v181 (F := Ideal) A0 A1 A2 A5 A6 (ix3 b s l)
      = gate (P A0 A1 A2 b s) (fun j => A5 (ix2 0 ⟨j % 4, by omega⟩)) (fun j => A6 (ix2 0 ⟨j % 4, by omega⟩)) l.val := by
  pointwise [Read.val_main_v181, Read.val_main_v180, Read.val_main_cst_21, v170_apply, v176_apply]
  by_cases h : l.val < 4
  · rw [gate0 h]
    refine (dif_pos h).trans ?_
    exact congrArg (fun q => _ + A5 (ix2 0 q)) (Fin.ext (Nat.mod_eq_of_lt h).symm)
  refine (dif_neg h).trans ?_
  by_cases h' : l.val - 4 < 4
  · rw [gate1 (by omega) (by omega)]
    refine (dif_pos h').trans ?_
    exact congrArg lsig (congrArg₂ (· + ·) (congrArg (P A0 A1 A2 b s) (by omega)) (congrArg (fun q => A6 (ix2 0 q)) (Fin.ext (Nat.mod_eq_of_lt h').symm)))
  rw [gate2 (by omega)]
  exact dif_neg h'

/-- The rows of all sequences. -/
theorem v183_apply (i : Fin 32768) (l : Fin 4352) :
    Read.val_main_v183 (F := Ideal) A0 A1 A2 A3 A4 (ix2 i l)
      = entry (P A0 A1 A2 ⟨i.val / 8192, by omega⟩ ⟨i.val % 8192, by omega⟩) (Q A0 A1 A2 ⟨i.val / 8192, by omega⟩ ⟨i.val % 8192, by omega⟩) (cosT (i.val % 8192)) (sinT (i.val % 8192)) (fun j => A3 (ix2 0 ⟨j % 512, by omega⟩)) (fun t j => A4 (ix3 0 ⟨t % 4, by omega⟩ ⟨j % 1024, by omega⟩)) (Ideal.ofBits .f32 0x3E38AA3B#32) (Ideal.ofBits .f32 0x3DB504F3#32) l.val := by
  pointwise [Read.val_main_v183, Read.val_main_v182, v179_apply]

/-- The gates of all sequences. -/
theorem v184_apply (i : Fin 32768) (l : Fin 128) :
    Read.val_main_v184 (F := Ideal) A0 A1 A2 A5 A6 (ix2 i l)
      = gate (P A0 A1 A2 ⟨i.val / 8192, by omega⟩ ⟨i.val % 8192, by omega⟩) (fun j => A5 (ix2 0 ⟨j % 4, by omega⟩)) (fun j => A6 (ix2 0 ⟨j % 4, by omega⟩)) l.val := by
  pointwise [Read.val_main_v184, v181_apply]

end Cert.Reference3Ideal.InProj

end
-- ==== Proof.InProj.Claim.lean ====
/- The value claim: the projection call's two result arrays are the reference's. -/
module

public import proofs.«01_k».proof.Defs
public import proofs.«01_k».proof.Proof.InProj.Final
public import proofs.«01_k».proof.Proof.InProj.Ref

@[expose] public section

set_option maxRecDepth 16384

noncomputable section

namespace Cert.Proof

open Idealize.ShloMosaic Idealize.ShloMosaic.TcCoe Idealize.SL.Sem

/-- A projected row of the call is the reference's at the row's position in its sequence. -/
theorem rows_eq (m : (ℓ : Loc Cert.Kernel3Ideal.nD Cert.Kernel3Ideal.τ Cert.Kernel3Ideal.sig) → Buf (Elt Ideal) ℓ) (c : Dev Cert.Kernel3Ideal.nD) (i : ℕ) (b : Fin 4) (s : Fin 8192) (hb : i / 8192 = b.val) (hs : i % 8192 = s.val) :
    Cert.Kernel3Ideal.InProj.PR m c i = Cert.Reference3Ideal.InProj.P (Cert.Kernel3Ideal.InProj.X m c) (Cert.Kernel3Ideal.InProj.G m c) (Cert.Kernel3Ideal.InProj.Wt m c) b s := by
  have e : Cert.Kernel3Ideal.InProj.hrow m c i = fun k => Cert.Kernel3Ideal.InProj.X m c (ix3 b s k) := by
    funext k
    unfold Cert.Kernel3Ideal.InProj.hrow
    refine congrArg (Cert.Kernel3Ideal.InProj.X m c) (congrArg₂ (fun b s => (ix3 b s k : Cert.Kernel3Ideal.S4x8192x2048.Idx)) (Fin.ext ?_) (Fin.ext ?_))
    · show i / 8192 % 4 = b.val
      omega
    · exact hs
  funext n
  unfold Cert.Kernel3Ideal.InProj.PR Cert.Reference3Ideal.InProj.P
  rw [e]

/-- The rows further back in the sequence agree too, being zero before its start. -/
theorem back_eq (m : (ℓ : Loc Cert.Kernel3Ideal.nD Cert.Kernel3Ideal.τ Cert.Kernel3Ideal.sig) → Buf (Elt Ideal) ℓ) (c : Dev Cert.Kernel3Ideal.nD) (i : ℕ) (b : Fin 4) (s : Fin 8192) (hb : i / 8192 = b.val) (hs : i % 8192 = s.val) :
    Cert.Kernel3Ideal.InProj.QR m c i = Cert.Reference3Ideal.InProj.Q (Cert.Kernel3Ideal.InProj.X m c) (Cert.Kernel3Ideal.InProj.G m c) (Cert.Kernel3Ideal.InProj.Wt m c) b s := by
  funext d n
  unfold Cert.Kernel3Ideal.InProj.QR Cert.Reference3Ideal.InProj.Q
  by_cases h : d ≤ s.val
  · rw [if_pos h, if_pos (show d ≤ i % 8192 by omega)]
    exact congrFun (rows_eq m c (i - d) b ⟨s.val - d, by omega⟩ (by omega) (show (i - d) % 8192 = s.val - d by omega)) n
  · rw [if_neg h, if_neg (show ¬ d ≤ i % 8192 by omega)]

/-- The array of projected rows is the reference's. -/
theorem out10_eq (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v183 (F := Ideal) (Cert.Kernel3Ideal.InProj.X m c) (Cert.Kernel3Ideal.InProj.G m c) (Cert.Kernel3Ideal.InProj.Wt m c) (Cert.Kernel3Ideal.InProj.VG m c) (Cert.Kernel3Ideal.InProj.CW m c) = Cert.Kernel3Ideal.InProj.OUT10 m c := by
  funext i
  obtain ⟨i, l, rfl⟩ : ∃ (p : Fin 32768) (q : Fin 4352), i = ix2 p q := ⟨i 0, i 1, by funext d; fin_cases d <;> rfl⟩
  refine (Cert.Reference3Ideal.InProj.v183_apply _ _ _ _ _ i l).trans ?_
  rw [← rows_eq m c i.val ⟨i.val / 8192, by omega⟩ ⟨i.val % 8192, by omega⟩ rfl rfl, ← back_eq m c i.val ⟨i.val / 8192, by omega⟩ ⟨i.val % 8192, by omega⟩ rfl rfl]
  rfl

/-- The array of gates is the reference's. -/
theorem out11_eq (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v184 (F := Ideal) (Cert.Kernel3Ideal.InProj.X m c) (Cert.Kernel3Ideal.InProj.G m c) (Cert.Kernel3Ideal.InProj.Wt m c) (Cert.Kernel3Ideal.InProj.IB m c) (Cert.Kernel3Ideal.InProj.FB m c) = Cert.Kernel3Ideal.InProj.OUT11 m c := by
  funext i
  obtain ⟨i, l, rfl⟩ : ∃ (p : Fin 32768) (q : Fin 128), i = ix2 p q := ⟨i 0, i 1, by funext d; fin_cases d <;> rfl⟩
  refine (Cert.Reference3Ideal.InProj.v184_apply _ _ _ _ _ i l).trans ?_
  rw [← rows_eq m c i.val ⟨i.val / 8192, by omega⟩ ⟨i.val % 8192, by omega⟩ rfl rfl]
  rfl

/-- The call's run: its two result arrays, the arguments unchanged. -/
theorem call_run (m : (ℓ : Loc Cert.Kernel3Ideal.nD Cert.Kernel3Ideal.τ Cert.Kernel3Ideal.sig) → Buf (Elt Ideal) ℓ) (g : Dev Cert.Kernel3Ideal.nD → PrngReg) :
    θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
      r.2.mem ((c.tc : Thread Cert.Kernel3Ideal.nD Cert.Kernel3Ideal.τ).loc Cert.Kernel3Ideal.main_v53_0) = Cert.Kernel3Ideal.InProj.OUT10 m c
      ∧ r.2.mem ((c.tc : Thread Cert.Kernel3Ideal.nD Cert.Kernel3Ideal.τ).loc Cert.Kernel3Ideal.main_v53_1) = Cert.Kernel3Ideal.InProj.OUT11 m c
      ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)) := by
  refine θ_run_mono (θ_run_and (Cert.Kernel3Ideal.Gen.run_main m g) (Cert.Kernel3Ideal.Gen.frame m g)) ?_
  intro r h c
  have hc := h.1 c
  have e10 : r.2.mem ((c.tc : Thread Cert.Kernel3Ideal.nD Cert.Kernel3Ideal.τ).loc Cert.Kernel3Ideal.main_v53_0) = (Cert.Kernel3Ideal.Gen.dats m 0 c).arrAt 10 (Cert.Kernel3Ideal.cfgs 0).N := hc.1 10
  have e11 : r.2.mem ((c.tc : Thread Cert.Kernel3Ideal.nD Cert.Kernel3Ideal.τ).loc Cert.Kernel3Ideal.main_v53_1) = (Cert.Kernel3Ideal.Gen.dats m 0 c).arrAt 11 (Cert.Kernel3Ideal.cfgs 0).N := hc.1 11
  exact ⟨e10.trans (Cert.Kernel3Ideal.InProj.final10 m c), e11.trans (Cert.Kernel3Ideal.InProj.final11 m c), h.2.1 c⟩

/-- The reference's run: its two result arrays as functions of the arguments, the arguments unchanged. -/
theorem reference_run (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => ∀ c : Dev Cert.Reference3Ideal.nD,
      r.2.mem ((c.tc : Thread Cert.Reference3Ideal.nD Cert.Reference3Ideal.τ).loc Cert.Reference3Ideal.main_v183) = Cert.Reference3Ideal.Read.val_main_v183 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))
      ∧ r.2.mem ((c.tc : Thread Cert.Reference3Ideal.nD Cert.Reference3Ideal.τ).loc Cert.Reference3Ideal.main_v184) = Cert.Reference3Ideal.Read.val_main_v184 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))
      ∧ r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)) := by
  refine θ_run_mono (Cert.Reference3Ideal.Value.run (F := Ideal) m g) ?_
  intro r h c
  exact ⟨(h c).1.trans (Cert.Reference3Ideal.Read.val_main_v183_eq _), (h c).2.1.trans (Cert.Reference3Ideal.Read.val_main_v184_eq _), (h c).2.2⟩

/-- On memories that agree on the arguments the projection call's two result arrays are the reference's. -/
theorem algebraic_Kernel3Ideal_Reference3Ideal : algebraic_Kernel3Ideal_Reference3Ideal := by
  intro m g m' g' hpre hagree
  refine ⟨Cert.Kernel3Ideal.InProj.OUT10 m, Cert.Kernel3Ideal.InProj.OUT11 m, call_run m g, θ_run_mono (reference_run m' g') ?_⟩
  intro r h c
  obtain ⟨a0, a1, a2, a3, a4, a5, a6⟩ := hagree c
  refine ⟨(h c).1.trans ?_, (h c).2.1.trans ?_, (h c).2.2⟩
  · rw [a0, a1, a2, a3, a4]
    exact out10_eq m c
  · rw [a0, a1, a2, a5, a6]
    exact out11_eq m c

end Cert.Proof

end
-- ==== Proof.lean ====
/- The proof of the claim: the frames from the generated runs, the value claims from their own modules. -/
module

public import proofs.«01_k».proof.Defs
public import proofs.«01_k».proof.Proof.Gen.Kernel.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.KernelIdeal.Frame
public import proofs.«01_k».proof.Proof.Gen.Reference2Ideal.Read
public import proofs.«01_k».proof.Proof.Gen.ReferenceIdeal.Read
public import proofs.«01_k».proof.Proof.Gen.Reference3Ideal.Read
public import proofs.«01_k».proof.Proof.Ffn.Claim
public import proofs.«01_k».proof.Proof.Ffn2.Claim
public import proofs.«01_k».proof.Proof.InProj.Claim
public import Idealize.ShloMosaic.Adequacy
public import Idealize.ShloMosaic.Init
public import Idealize.ShloMosaic.Lib.Quiescent

@[expose] public section

noncomputable section

namespace Cert.Proof

open Idealize.ShloMosaic Idealize.SL.Sem

/-- The reference runs to the end and leaves no semaphore raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The second reference runs to the end and leaves no semaphore raised. -/
theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The third reference runs to the end and leaves no semaphore raised. -/
theorem quiescent_Reference3Ideal : quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The two named constants of the projection call are what its table says. -/
theorem preserves_Kernel3_Kernel3Ideal : preserves_Kernel3_Kernel3Ideal :=
  ⟨IdealRules.named_const.statement _ _ _ _ _ rfl, IdealRules.named_const.statement _ _ _ _ _ rfl⟩

/-- Every claim of the certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts,
  fun m ρ _ => Cert.Kernel.Gen.frame m ρ, fun m ρ _ => Cert.KernelIdeal.Gen.frame m ρ, quiescent_ReferenceIdeal, fun m ρ _ => Cert.Kernel2.Gen.frame m ρ, fun m ρ _ => Cert.Kernel2Ideal.Gen.frame m ρ, quiescent_Reference2Ideal, fun m ρ _ => Cert.Kernel3.Gen.frame m ρ, fun m ρ _ => Cert.Kernel3Ideal.Gen.frame m ρ, quiescent_Reference3Ideal, fun m ρ _ => Cert.Kernel4.Gen.frame m ρ, fun m ρ _ => Cert.Kernel4Ideal.Gen.frame m ρ, (trivial : preserves_Kernel_KernelIdeal), algebraic_KernelIdeal_ReferenceIdeal, (trivial : preserves_Kernel2_Kernel2Ideal), algebraic_Kernel2Ideal_Reference2Ideal, preserves_Kernel3_Kernel3Ideal, algebraic_Kernel3Ideal_Reference3Ideal, (trivial : preserves_Kernel4_Kernel4Ideal)⟩

end Cert.Proof

end
